-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)) (v6 : (c : Dev Cert.Kernel7Ideal.nD) → Buf (Elt Ideal) ((c.tc : Thread Cert.Kernel7Ideal.nD Cert.Kernel7Ideal.τ).loc Cert.Kernel7Ideal.main_v4_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_v4_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_v16) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_v18) = v4 c
          ∧ r.2.mem ((c.tc : Thread Cert.Reference7Ideal.nD Cert.Reference7Ideal.τ).loc Cert.Reference7Ideal.main_v19) = v5 c
          ∧ r.2.mem ((c.tc : Thread Cert.Reference7Ideal.nD Cert.Reference7Ideal.τ).loc Cert.Reference7Ideal.main_v20) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v57) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024x2816 .f32) (main_arg4 : FVec F S1024x2816 .f32) (main_arg5 : FVec F S2816x1024 .f32) : IVec S4096x1024 1 × IVec S4096x1024 1 × IVec S1024 1 × IVec S1024x2816 1 × IVec S1024x2816 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite5.lean ====
abbrev S4096x1024 : Shape := ⟨2, ![4096, 1024]⟩
abbrev S1024 : Shape := ⟨1, ![1024]⟩
abbrev S1024x6656 : Shape := ⟨2, ![1024, 6656]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x6656 : S_.BroadcastsInDim S1024x6656 (![] : Fin 0 → Fin S1024x6656.rank)
  bcast_S_S4096x512 : S_.BroadcastsInDim S4096x512 (![] : Fin 0 → Fin S4096x512.rank)

variable [Facts]

def fn_part1 {F : FTy → Type} [FloatOps F] (main_arg6 : FVec F S4096x1024 .f32) (main_arg7 : FVec F S4096x1024 .f32) (main_arg8 : FVec F S4096x1024 .f32) (main_arg9 : FVec F S4096x1024 .f32) (main_arg10 : FVec F S4096x1024 .f32) (main_v2 : IVec S4096x1024 1) (main_v5 : IVec S4096x1024 1) (main_v8 : IVec S1024 1) (main_v11 : IVec S1024x6656 1) (main_v14 : IVec S4096x512 1) (main_v17 : IVec S4096x1024 1) : IVec S4096x1024 1 × IVec S4096x1024 1 × IVec S1024 1 × IVec S1024x6656 1 × IVec S4096x512 1 × IVec S4096x1024 1 × IVec S4096x1024 1 × IVec S4096x1024 1 × IVec S4096x1024 1 × IVec S4096x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  let main_v30 : FVec F S4096x1024 .f32 := Host.absf main_arg10
  let main_cst_9 : FVec F S_ .f32 := constant S_ .f32 0x7F800000#32
  let main_v31 : FVec F S4096x1024 .f32 := broadcastInDim S4096x1024 ![] bcast_S_S4096x1024 main_cst_9
  let main_v32 : IVec S4096x1024 1 := cmpf .olt main_v30 main_v31
  (main_v2, main_v5, main_v8, main_v11, main_v14, main_v17, main_v20, main_v23, main_v26, main_v29, main_v32)

def fn {F : FTy → Type} [FloatOps F] (main_arg0 : FVec F S4096x1024 .f32) (main_arg1 : FVec F S4096x1024 .f32) (main_arg2 : FVec F S1024 .f32) (main_arg3 : FVec F S1024x6656 .f32) (main_arg4 : FVec F S4096x512 .f32) (main_arg5 : FVec F S4096x1024 .f32) (main_arg6 : FVec F S4096x1024 .f32) (main_arg7 : FVec F S4096x1024 .f32) (main_arg8 : FVec F S4096x1024 .f32) (main_arg9 : FVec F S4096x1024 .f32) (main_arg10 : FVec F S4096x1024 .f32) : IVec S4096x1024 1 × IVec S4096x1024 1 × IVec S1024 1 × IVec S1024x6656 1 × IVec S4096x512 1 × IVec S4096x1024 1 × IVec S4096x1024 1 × IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x6656 .f32 := Host.absf main_arg3
  let main_cst_2 : FVec F S_ .f32 := constant S_ .f32 0x7F800000#32
  let main_v10 : FVec F S1024x6656 .f32 := broadcastInDim S1024x6656 ![] bcast_S_S1024x6656 main_cst_2
  let main_v11 : IVec S1024x6656 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_arg8 main_arg9 main_arg10 main_v2 main_v5 main_v8 main_v11 main_v14 main_v17
-- ==== Kernel.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S4x4096x768 : Shape := ⟨3, ![4, 4096, 768]⟩
abbrev S4x704x1024 : Shape := ⟨3, ![4, 704, 1024]⟩
abbrev S4x768x1024 : Shape := ⟨3, ![4, 768, 1024]⟩
abbrev S256x1024 : Shape := ⟨2, ![256, 1024]⟩
abbrev S4x256x768 : Shape := ⟨3, ![4, 256, 768]⟩
abbrev S256 : Shape := ⟨1, ![256]⟩
abbrev S256x1 : Shape := ⟨2, ![256, 1]⟩
abbrev S1x256x768 : Shape := ⟨3, ![1, 256, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 61
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x4x704, .f32⟩
  | .hbm, ⟨25, _⟩ => ⟨S4x4096x704, .f32⟩
  | .hbm, ⟨26, _⟩ => ⟨S_, .i32⟩
  | .hbm, ⟨27, _⟩ => ⟨S_, .f32⟩
  | .hbm, ⟨28, _⟩ => ⟨S4x4096x768, .f32⟩
  | .hbm, ⟨29, _⟩ => ⟨S4x4096x768, .bf16⟩
  | .hbm, ⟨30, _⟩ => ⟨S4096x4x704, .f32⟩
  | .hbm, ⟨31, _⟩ => ⟨S4x4096x704, .f32⟩
  | .hbm, ⟨32, _⟩ => ⟨S_, .i32⟩
  | .hbm, ⟨33, _⟩ => ⟨S_, .f32⟩
  | .hbm, ⟨34, _⟩ => ⟨S4x4096x768, .f32⟩
  | .hbm, ⟨35, _⟩ => ⟨S4x4096x768, .bf16⟩
  | .hbm, ⟨36, _⟩ => ⟨S1x1024, .f32⟩
  | .hbm, ⟨37, _⟩ => ⟨S2816x1024, .f32⟩
  | .hbm, ⟨38, _⟩ => ⟨S4x704x1024, .f32⟩
  | .hbm, ⟨39, _⟩ => ⟨S_, .i32⟩
  | .hbm, ⟨40, _⟩ => ⟨S_, .f32⟩
  | .hbm, ⟨41, _⟩ => ⟨S4x768x1024, .f32⟩
  | .hbm, ⟨42, _⟩ => ⟨S4x768x1024, .bf16⟩
  | .hbm, ⟨43, _⟩ => ⟨S2816x1024, .f32⟩
  | .hbm, ⟨44, _⟩ => ⟨S4x704x1024, .f32⟩
  | .hbm, ⟨45, _⟩ => ⟨S_, .i32⟩
  | .hbm, ⟨46, _⟩ => ⟨S_, .f32⟩
  | .hbm, ⟨47, _⟩ => ⟨S4x768x1024, .f32⟩
  | .hbm, ⟨48, _⟩ => ⟨S4x768x1024, .bf16⟩
  | .hbm, ⟨49, _⟩ => ⟨S4x704x1024, .f32⟩
  | .hbm, ⟨50, _⟩ => ⟨S_, .i32⟩
  | .hbm, ⟨51, _⟩ => ⟨S_, .f32⟩
  | .hbm, ⟨52, _⟩ => ⟨S4x768x1024, .f32⟩
  | .hbm, ⟨53, _⟩ => ⟨S4x768x1024, .bf16⟩
  | .hbm, ⟨54, _⟩ => ⟨S4096x1024, .f32⟩
  | .hbm, ⟨55, _⟩ => ⟨S1x1024, .f32⟩
  | .hbm, ⟨56, _⟩ => ⟨S4096x1024, .bf16⟩
  | .hbm, ⟨57, _⟩ => ⟨S4096x1024, .bf16⟩
  | .hbm, ⟨58, _⟩ => ⟨S4x4096x768, .bf16⟩
  | .hbm, ⟨59, _⟩ => ⟨S4x4096x768, .bf16⟩
  | .hbm, ⟨60, _⟩ => ⟨S4x4096x768, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x256x768, .bf16⟩
  | .local _ .vmem, ⟨5, _⟩ => ⟨S4x256x768, .bf16⟩
  | .local _ .vmem, ⟨6, _⟩ => ⟨S4x256x768, .bf16⟩
  | .local _ .vmem, ⟨7, _⟩ => ⟨S4x256x768, .bf16⟩
  | .local _ .vmem, ⟨8, _⟩ => ⟨S1x1024, .f32⟩
  | .local _ .vmem, ⟨9, _⟩ => ⟨S4x768x1024, .bf16⟩
  | .local _ .vmem, ⟨10, _⟩ => ⟨S4x768x1024, .bf16⟩
  | .local _ .vmem, ⟨11, _⟩ => ⟨S4x768x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S4x256x768, .bf16⟩
  | .local _ .vmem, ⟨20, _⟩ => ⟨S4x256x768, .bf16⟩
  | .local _ .vmem, ⟨21, _⟩ => ⟨S4x256x768, .bf16⟩
  | .local _ .vmem, ⟨22, _⟩ => ⟨S4x256x768, .bf16⟩
  | .local _ .vmem, ⟨23, _⟩ => ⟨S4x256x768, .bf16⟩
  | .local _ .vmem, ⟨24, _⟩ => ⟨S4x256x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_call2_v0 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call3_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_call4_v0 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v35_3 : Ref sig .tc := ⟨.hbm, 57, rfl⟩
abbrev main_v35_4 : Ref sig .tc := ⟨.hbm, 58, rfl⟩
abbrev main_v35_5 : Ref sig .tc := ⟨.hbm, 59, rfl⟩
abbrev main_v35_6 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v231 : BitVec 1 := Scalar.cmpi .eq arg0 c0_i32
  let v232 : BitVec 32 := Scalar.extui v231
  let c0_i32_145 : BitVec 32 := 0#32
  let v233 : BitVec 1 := Scalar.cmpi .ne v232 c0_i32_145
  v233

def k0_cond2 (i : grid0.Coords) : BitVec 1 :=
  let arg0 : BitVec 32 := BitVec.ofNat 32 (i 0).val
  let c0_i32 : BitVec 32 := 0#32
  let v231 : BitVec 1 := Scalar.cmpi .eq arg0 c0_i32
  let v_true : BitVec 1 := 1#1
  let v234 : BitVec 1 := Scalar.xori v231 v_true
  let v235 : BitVec 32 := Scalar.extui v234
  let c0_i32_146 : BitVec 32 := 0#32
  let v236 : BitVec 1 := Scalar.cmpi .ne v235 c0_i32_146
  v236

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S1024x2816, .f32⟩
  | .hbm, ⟨55, _⟩ => ⟨S2816x1024, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S2816x1024, .f32⟩
  | .hbm, ⟨60, _⟩ => ⟨S1024x2816, .f32⟩
  | .hbm, ⟨61, _⟩ => ⟨S4096x1024, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S2816x1024, .f32⟩
  | .hbm, ⟨67, _⟩ => ⟨S1024x2816, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]
-- ==== Kernel2.lean ====
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩
abbrev S4x4096x768 : Shape := ⟨3, ![4, 4096, 768]⟩
abbrev S4x768x1024 : Shape := ⟨3, ![4, 768, 1024]⟩
abbrev S1x4096x768 : Shape := ⟨3, ![1, 4096, 768]⟩
abbrev S1x768x1024 : Shape := ⟨3, ![1, 768, 1024]⟩
abbrev S4096x768 : Shape := ⟨2, ![4096, 768]⟩
abbrev S768x1024 : Shape := ⟨2, ![768, 1024]⟩
abbrev S4x704x1024 : Shape := ⟨3, ![4, 704, 1024]⟩
abbrev S2816x1024 : Shape := ⟨2, ![2816, 1024]⟩
abbrev S1024x2816 : Shape := ⟨2, ![1024, 2816]⟩

abbrev nBuf : Space → Nat
  | .hbm => 13
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x4x704, .f32⟩
  | .hbm, ⟨3, _⟩ => ⟨S4x4096x704, .f32⟩
  | .hbm, ⟨4, _⟩ => ⟨S_, .i32⟩
  | .hbm, ⟨5, _⟩ => ⟨S_, .f32⟩
  | .hbm, ⟨6, _⟩ => ⟨S4x4096x768, .f32⟩
  | .hbm, ⟨7, _⟩ => ⟨S4x4096x768, .bf16⟩
  | .hbm, ⟨8, _⟩ => ⟨S4096x1024, .bf16⟩
  | .hbm, ⟨9, _⟩ => ⟨S4x768x1024, .f32⟩
  | .hbm, ⟨10, _⟩ => ⟨S4x704x1024, .f32⟩
  | .hbm, ⟨11, _⟩ => ⟨S2816x1024, .f32⟩
  | .hbm, ⟨12, _⟩ => ⟨S1024x2816, .f32⟩
  | .local _ .vmem, ⟨0, _⟩ => ⟨S1x4096x768, .bf16⟩
  | .local _ .vmem, ⟨1, _⟩ => ⟨S1x4096x768, .bf16⟩
  | .local _ .vmem, ⟨2, _⟩ => ⟨S4096x1024, .bf16⟩
  | .local _ .vmem, ⟨3, _⟩ => ⟨S1x768x1024, .f32⟩
  | .local _ .vmem, ⟨4, _⟩ => ⟨S1x768x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S_ : Shape := ⟨0, ![]⟩
abbrev S4x768x1024 : Shape := ⟨3, ![4, 768, 1024]⟩
abbrev S4x4096x768 : Shape := ⟨3, ![4, 4096, 768]⟩
abbrev S512x1024 : Shape := ⟨2, ![512, 1024]⟩
abbrev S4x512x768 : Shape := ⟨3, ![4, 512, 768]⟩
abbrev S512 : Shape := ⟨1, ![512]⟩
abbrev S512x1 : Shape := ⟨2, ![512, 1]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩

abbrev nBuf : Space → Nat
  | .hbm => 26
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S_, .i32⟩
  | .hbm, ⟨9, _⟩ => ⟨S_, .f32⟩
  | .hbm, ⟨10, _⟩ => ⟨S4x768x1024, .f32⟩
  | .hbm, ⟨11, _⟩ => ⟨S4x768x1024, .bf16⟩
  | .hbm, ⟨12, _⟩ => ⟨S2816x1024, .f32⟩
  | .hbm, ⟨13, _⟩ => ⟨S4x704x1024, .f32⟩
  | .hbm, ⟨14, _⟩ => ⟨S_, .i32⟩
  | .hbm, ⟨15, _⟩ => ⟨S_, .f32⟩
  | .hbm, ⟨16, _⟩ => ⟨S4x768x1024, .f32⟩
  | .hbm, ⟨17, _⟩ => ⟨S4x768x1024, .bf16⟩
  | .hbm, ⟨18, _⟩ => ⟨S4x704x1024, .f32⟩
  | .hbm, ⟨19, _⟩ => ⟨S_, .i32⟩
  | .hbm, ⟨20, _⟩ => ⟨S_, .f32⟩
  | .hbm, ⟨21, _⟩ => ⟨S4x768x1024, .f32⟩
  | .hbm, ⟨22, _⟩ => ⟨S4x768x1024, .bf16⟩
  | .hbm, ⟨23, _⟩ => ⟨S4096x1024, .f32⟩
  | .hbm, ⟨24, _⟩ => ⟨S4x4096x768, .bf16⟩
  | .hbm, ⟨25, _⟩ => ⟨S4x4096x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x768x1024, .bf16⟩
  | .local _ .vmem, ⟨4, _⟩ => ⟨S4x768x1024, .bf16⟩
  | .local _ .vmem, ⟨5, _⟩ => ⟨S4x768x1024, .bf16⟩
  | .local _ .vmem, ⟨6, _⟩ => ⟨S512x1024, .f32⟩
  | .local _ .vmem, ⟨7, _⟩ => ⟨S512x1024, .f32⟩
  | .local _ .vmem, ⟨8, _⟩ => ⟨S4x512x768, .bf16⟩
  | .local _ .vmem, ⟨9, _⟩ => ⟨S4x512x768, .bf16⟩
  | .local _ .vmem, ⟨10, _⟩ => ⟨S4x512x768, .bf16⟩
  | .local _ .vmem, ⟨11, _⟩ => ⟨S4x512x768, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S_ : Shape := ⟨0, ![]⟩
abbrev S4096x8x128 : Shape := ⟨3, ![4096, 8, 128]⟩
abbrev S64 : Shape := ⟨1, ![64]⟩
abbrev S64x8x128 : Shape := ⟨3, ![64, 8, 128]⟩
abbrev S64x1x8x128 : Shape := ⟨4, ![64, 1, 8, 128]⟩
abbrev S1x4096x8x128 : Shape := ⟨4, ![1, 4096, 8, 128]⟩
abbrev S64x4096x8x128 : Shape := ⟨4, ![64, 4096, 8, 128]⟩
abbrev S64x1 : Shape := ⟨2, ![64, 1]⟩
abbrev S4096 : Shape := ⟨1, ![4096]⟩
abbrev S1x4096 : Shape := ⟨2, ![1, 4096]⟩
abbrev S64x4096 : Shape := ⟨2, ![64, 4096]⟩
abbrev S64x4096x1x1 : Shape := ⟨4, ![64, 4096, 1, 1]⟩
abbrev S8x128x64x128 : Shape := ⟨4, ![8, 128, 64, 128]⟩
abbrev S64x8x128x128 : Shape := ⟨4, ![64, 8, 128, 128]⟩
abbrev S256x1024 : Shape := ⟨2, ![256, 1024]⟩
abbrev S4x8x128x128 : Shape := ⟨4, ![4, 8, 128, 128]⟩
abbrev S8x128x128 : Shape := ⟨3, ![8, 128, 128]⟩
abbrev S64x64 : Shape := ⟨2, ![64, 64]⟩
abbrev S64x1024 : Shape := ⟨2, ![64, 1024]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S1x128 : Shape := ⟨2, ![1, 128]⟩
abbrev S128 : Shape := ⟨1, ![128]⟩
abbrev S1024 : Shape := ⟨1, ![1024]⟩

abbrev nBuf : Space → Nat
  | .hbm => 76
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x8x128, .f32⟩
  | .hbm, ⟨36, _⟩ => ⟨S_, .f32⟩
  | .hbm, ⟨37, _⟩ => ⟨S_, .f32⟩
  | .hbm, ⟨38, _⟩ => ⟨S4096x8x128, .f32⟩
  | .hbm, ⟨39, _⟩ => ⟨S64, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S64x8x128, .f32⟩
  | .hbm, ⟨47, _⟩ => ⟨S64x1x8x128, .f32⟩
  | .hbm, ⟨48, _⟩ => ⟨S1x4096x8x128, .f32⟩
  | .hbm, ⟨49, _⟩ => ⟨S64x4096x8x128, .f32⟩
  | .hbm, ⟨50, _⟩ => ⟨S64x4096x8x128, .f32⟩
  | .hbm, ⟨51, _⟩ => ⟨S64x4096x8x128, .f32⟩
  | .hbm, ⟨52, _⟩ => ⟨S64x1, .i32⟩
  | .hbm, ⟨53, _⟩ => ⟨S4096, .i32⟩
  | .hbm, ⟨54, _⟩ => ⟨S1x4096, .i32⟩
  | .hbm, ⟨55, _⟩ => ⟨S64x4096, .i32⟩
  | .hbm, ⟨56, _⟩ => ⟨S64x4096, .i32⟩
  | .hbm, ⟨57, _⟩ => ⟨S64x4096, .i1⟩
  | .hbm, ⟨58, _⟩ => ⟨S64x4096x1x1, .i1⟩
  | .hbm, ⟨59, _⟩ => ⟨S_, .f32⟩
  | .hbm, ⟨60, _⟩ => ⟨S_, .f32⟩
  | .hbm, ⟨61, _⟩ => ⟨S64x4096x8x128, .i1⟩
  | .hbm, ⟨62, _⟩ => ⟨S64x4096x8x128, .f32⟩
  | .hbm, ⟨63, _⟩ => ⟨S64x4096x8x128, .f32⟩
  | .hbm, ⟨64, _⟩ => ⟨S64x4096x8x128, .f32⟩
  | .hbm, ⟨65, _⟩ => ⟨S4096x8x128, .f32⟩
  | .hbm, ⟨66, _⟩ => ⟨S1x4096x8x128, .f32⟩
  | .hbm, ⟨67, _⟩ => ⟨S64x4096x8x128, .f32⟩
  | .hbm, ⟨68, _⟩ => ⟨S64x4096x8x128, .f32⟩
  | .hbm, ⟨69, _⟩ => ⟨S4096x8x128, .f32⟩
  | .hbm, ⟨70, _⟩ => ⟨S8x128x64x128, .f32⟩
  | .hbm, ⟨71, _⟩ => ⟨S64x8x128x128, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S4x8x128x128, .f32⟩
  | .local _ .vmem, ⟨10, _⟩ => ⟨S4x8x128x128, .f32⟩
  | .local _ .vmem, ⟨11, _⟩ => ⟨S4x8x128x128, .f32⟩
  | .local _ .vmem, ⟨12, _⟩ => ⟨S4x8x128x128, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_call0_cst : Ref sig .tc := ⟨.hbm, 36, rfl⟩
abbrev main_call0_call0_v0 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53_0 : Ref sig .tc := ⟨.hbm, 72, rfl⟩
abbrev main_v53_1 : Ref sig .tc := ⟨.hbm, 73, rfl⟩
abbrev main_v53_2 : Ref sig .tc := ⟨.hbm, 74, rfl⟩
abbrev main_v53_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v3052 : BitVec 32 := Scalar.extui v0
  let c0_i32_967 : BitVec 32 := 0#32
  let v3053 : BitVec 1 := Scalar.cmpi .ne v3052 c0_i32_967
  v3053

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3054 : BitVec 1 := Scalar.xori v0 v_true
  let v3055 : BitVec 32 := Scalar.extui v3054
  let c0_i32_968 : BitVec 32 := 0#32
  let v3056 : BitVec 1 := Scalar.cmpi .ne v3055 c0_i32_968
  v3056

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c14_i32 : BitVec 32 := 14#32
  let v0 : BitVec 32 := Scalar.subi c14_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel5.lean ====
abbrev S4096x1024 : Shape := ⟨2, ![4096, 1024]⟩
abbrev S1024 : Shape := ⟨1, ![1024]⟩
abbrev S1024x6656 : Shape := ⟨2, ![1024, 6656]⟩
abbrev S4096x512 : Shape := ⟨2, ![4096, 512]⟩
abbrev S1x1024 : Shape := ⟨2, ![1, 1024]⟩
abbrev S1024x4x1664 : Shape := ⟨3, ![1024, 4, 1664]⟩
abbrev S4x1024x1664 : Shape := ⟨3, ![4, 1024, 1664]⟩
abbrev S4096x6656 : Shape := ⟨2, ![4096, 6656]⟩
abbrev S256x1024 : Shape := ⟨2, ![256, 1024]⟩
abbrev S256x512 : Shape := ⟨2, ![256, 512]⟩
abbrev S256x6656 : Shape := ⟨2, ![256, 6656]⟩
abbrev S256 : Shape := ⟨1, ![256]⟩
abbrev S256x1 : Shape := ⟨2, ![256, 1]⟩
abbrev S256x1664 : Shape := ⟨2, ![256, 1664]⟩
abbrev S1x1024x1664 : Shape := ⟨3, ![1, 1024, 1664]⟩
abbrev S1024x1664 : Shape := ⟨2, ![1024, 1664]⟩

abbrev nBuf : Space → Nat
  | .hbm => 19
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x6656, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1024x4x1664, .f32⟩
  | .hbm, ⟨13, _⟩ => ⟨S4x1024x1664, .f32⟩
  | .hbm, ⟨14, _⟩ => ⟨S4x1024x1664, .bf16⟩
  | .hbm, ⟨15, _⟩ => ⟨S4096x1024, .f32⟩
  | .hbm, ⟨16, _⟩ => ⟨S1x1024, .f32⟩
  | .hbm, ⟨17, _⟩ => ⟨S4096x1024, .bf16⟩
  | .hbm, ⟨18, _⟩ => ⟨S4096x6656, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x1024x1664, .bf16⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S256x1024, .bf16⟩
  | .local _ .vmem, ⟨24, _⟩ => ⟨S256x1024, .bf16⟩
  | .local _ .vmem, ⟨25, _⟩ => ⟨S256x6656, .bf16⟩
  | .local _ .vmem, ⟨26, _⟩ => ⟨S256x6656, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_44 : BitVec 32 := 0#32
  let v70 : BitVec 1 := Scalar.cmpi .ne v69 c0_i32_44
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_45 : BitVec 32 := 0#32
  let v73 : BitVec 1 := Scalar.cmpi .ne v72 c0_i32_45
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x6656 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S4096x1024 : Shape := ⟨2, ![4096, 1024]⟩
abbrev S1024 : Shape := ⟨1, ![1024]⟩
abbrev S1024x6656 : Shape := ⟨2, ![1024, 6656]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6656 : Shape := ⟨2, ![4096, 6656]⟩
abbrev S6656x1024 : Shape := ⟨2, ![6656, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x6656, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x6656, .f32⟩
  | .hbm, ⟨35, _⟩ => ⟨S4096x512, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x6656, .f32⟩
  | .hbm, ⟨44, _⟩ => ⟨S_, .f32⟩
  | .hbm, ⟨45, _⟩ => ⟨S4096x6656, .f32⟩
  | .hbm, ⟨46, _⟩ => ⟨S4096x6656, .f32⟩
  | .hbm, ⟨47, _⟩ => ⟨S_, .f32⟩
  | .hbm, ⟨48, _⟩ => ⟨S4096x6656, .f32⟩
  | .hbm, ⟨49, _⟩ => ⟨S4096x6656, .f32⟩
  | .hbm, ⟨50, _⟩ => ⟨S_, .f32⟩
  | .hbm, ⟨51, _⟩ => ⟨S4096x6656, .f32⟩
  | .hbm, ⟨52, _⟩ => ⟨S4096x6656, .f32⟩
  | .hbm, ⟨53, _⟩ => ⟨S_, .f32⟩
  | .hbm, ⟨54, _⟩ => ⟨S4096x6656, .f32⟩
  | .hbm, ⟨55, _⟩ => ⟨S4096x6656, .f32⟩
  | .hbm, ⟨56, _⟩ => ⟨S_, .f32⟩
  | .hbm, ⟨57, _⟩ => ⟨S4096x6656, .f32⟩
  | .hbm, ⟨58, _⟩ => ⟨S4096x6656, .f32⟩
  | .hbm, ⟨59, _⟩ => ⟨S_, .f32⟩
  | .hbm, ⟨60, _⟩ => ⟨S4096x6656, .f32⟩
  | .hbm, ⟨61, _⟩ => ⟨S4096x6656, .f32⟩
  | .hbm, ⟨62, _⟩ => ⟨S6656x1024, .f32⟩
  | .hbm, ⟨63, _⟩ => ⟨S1024x6656, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩

abbrev nD : Nat := 1
abbrev τ : Topo := Topo.v7x

variable {F : FTy → Type} [FloatOps F]
-- ==== Kernel6.lean ====
abbrev S4096x1024 : Shape := ⟨2, ![4096, 1024]⟩
abbrev S4096x6656 : Shape := ⟨2, ![4096, 6656]⟩
abbrev S4x1024x1664 : Shape := ⟨3, ![4, 1024, 1664]⟩
abbrev S2048x1024 : Shape := ⟨2, ![2048, 1024]⟩
abbrev S2048x1664 : Shape := ⟨2, ![2048, 1664]⟩
abbrev S1x1024x1664 : Shape := ⟨3, ![1, 1024, 1664]⟩
abbrev S1024x1664 : Shape := ⟨2, ![1024, 1664]⟩
abbrev S1024x4x1664 : Shape := ⟨3, ![1024, 4, 1664]⟩
abbrev S1024x6656 : Shape := ⟨2, ![1024, 6656]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x6656, .f32⟩
  | .hbm, ⟨2, _⟩ => ⟨S4096x1024, .bf16⟩
  | .hbm, ⟨3, _⟩ => ⟨S4096x6656, .bf16⟩
  | .hbm, ⟨4, _⟩ => ⟨S4x1024x1664, .f32⟩
  | .hbm, ⟨5, _⟩ => ⟨S1024x4x1664, .f32⟩
  | .hbm, ⟨6, _⟩ => ⟨S1024x6656, .f32⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1x1024x1664, .f32⟩
  | .local _ .vmem, ⟨5, _⟩ => ⟨S1x1024x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S4096x6656 : Shape := ⟨2, ![4096, 6656]⟩
abbrev S_ : Shape := ⟨0, ![]⟩
abbrev S1024x6656 : Shape := ⟨2, ![1024, 6656]⟩
abbrev S6656x1024 : Shape := ⟨2, ![6656, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6656, .f32⟩
  | .hbm, ⟨2, _⟩ => ⟨S_, .f32⟩
  | .hbm, ⟨3, _⟩ => ⟨S1024x6656, .f32⟩
  | .hbm, ⟨4, _⟩ => ⟨S4096x6656, .f32⟩
  | .hbm, ⟨5, _⟩ => ⟨S6656x1024, .f32⟩
  | .hbm, ⟨6, _⟩ => ⟨S1024x6656, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x6656 : Shape := ⟨2, ![1024, 6656]⟩
abbrev S1x1024 : Shape := ⟨2, ![1, 1024]⟩
abbrev S1024x4x1664 : Shape := ⟨3, ![1024, 4, 1664]⟩
abbrev S4x1024x1664 : Shape := ⟨3, ![4, 1024, 1664]⟩
abbrev S4096x512 : Shape := ⟨2, ![4096, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x1024x1664 : Shape := ⟨3, ![1, 1024, 1664]⟩
abbrev S1024x1664 : Shape := ⟨2, ![1024, 1664]⟩
abbrev S256x1664 : Shape := ⟨2, ![256, 1664]⟩
abbrev S256x6656 : Shape := ⟨2, ![256, 6656]⟩

abbrev nBuf : Space → Nat
  | .hbm => 14
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6656, .f32⟩
  | .hbm, ⟨3, _⟩ => ⟨S1x1024, .f32⟩
  | .hbm, ⟨4, _⟩ => ⟨S1024x4x1664, .f32⟩
  | .hbm, ⟨5, _⟩ => ⟨S4x1024x1664, .f32⟩
  | .hbm, ⟨6, _⟩ => ⟨S4x1024x1664, .bf16⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1664, .bf16⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S4096x1024 : Shape := ⟨2, ![4096, 1024]⟩
abbrev S1024 : Shape := ⟨1, ![1024]⟩
abbrev S1024x6656 : Shape := ⟨2, ![1024, 6656]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6656 : Shape := ⟨2, ![4096, 6656]⟩
abbrev S4096x512 : Shape := ⟨2, ![4096, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6656, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x6656, .f32⟩
  | .hbm, ⟨20, _⟩ => ⟨S4096x512, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel8.lean ====
abbrev S4096x1024 : Shape := ⟨2, ![4096, 1024]⟩
abbrev S4x256x1024 : Shape := ⟨3, ![4, 256, 1024]⟩
abbrev S4096x256 : Shape := ⟨2, ![4096, 256]⟩
abbrev S1x256x1024 : Shape := ⟨3, ![1, 256, 1024]⟩
abbrev S256x1024 : Shape := ⟨2, ![256, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4x256x1024, .f32⟩
  | .hbm, ⟨5, _⟩ => ⟨S1024x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S1x256x1024, .f32⟩
  | .local _ .vmem, ⟨4, _⟩ => ⟨S1x256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩
abbrev S512x4x256 : Shape := ⟨3, ![512, 4, 256]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S4x512x256, .f32⟩
  | .hbm, ⟨5, _⟩ => ⟨S512x4x256, .f32⟩
  | .hbm, ⟨6, _⟩ => ⟨S512x1024, .f32⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .f32⟩
  | .local _ .vmem, ⟨4, _⟩ => ⟨S1x512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S512x1024 : Shape := ⟨2, ![512, 1024]⟩
abbrev S1024 : Shape := ⟨1, ![1024]⟩
abbrev S1024x1024 : Shape := ⟨2, ![1024, 1024]⟩
abbrev S512x4x256 : Shape := ⟨3, ![512, 4, 256]⟩
abbrev S4x512x256 : Shape := ⟨3, ![4, 512, 256]⟩
abbrev S1x1024 : Shape := ⟨2, ![1, 1024]⟩
abbrev S256x1024 : Shape := ⟨2, ![256, 1024]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 21
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S512x1024, .f32⟩
  | .hbm, ⟨7, _⟩ => ⟨S512x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S512x4x256, .f32⟩
  | .hbm, ⟨12, _⟩ => ⟨S4x512x256, .f32⟩
  | .hbm, ⟨13, _⟩ => ⟨S4x512x256, .bf16⟩
  | .hbm, ⟨14, _⟩ => ⟨S512x4x256, .f32⟩
  | .hbm, ⟨15, _⟩ => ⟨S4x512x256, .f32⟩
  | .hbm, ⟨16, _⟩ => ⟨S4x512x256, .bf16⟩
  | .hbm, ⟨17, _⟩ => ⟨S1x1024, .f32⟩
  | .hbm, ⟨18, _⟩ => ⟨S1024x1024, .bf16⟩
  | .hbm, ⟨19, _⟩ => ⟨S1024x1024, .bf16⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S4x512x256, .bf16⟩
  | .local _ .vmem, ⟨13, _⟩ => ⟨S4x512x256, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference10Ideal.lean ====
abbrev S4096x1024 : Shape := ⟨2, ![4096, 1024]⟩
abbrev S4096x512 : Shape := ⟨2, ![4096, 512]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩
abbrev S4096x8x128 : Shape := ⟨3, ![4096, 8, 128]⟩
abbrev S8x128 : Shape := ⟨2, ![8, 128]⟩
abbrev S4096x8 : Shape := ⟨2, ![4096, 8]⟩
abbrev S4096x8x1 : Shape := ⟨3, ![4096, 8, 1]⟩
abbrev S1x8x128 : Shape := ⟨3, ![1, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S512x1024, .f32⟩
  | .hbm, ⟨7, _⟩ => ⟨S512x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x8x128, .f32⟩
  | .hbm, ⟨40, _⟩ => ⟨S8x128, .f32⟩
  | .hbm, ⟨41, _⟩ => ⟨S4096x8x128, .f32⟩
  | .hbm, ⟨42, _⟩ => ⟨S_, .f32⟩
  | .hbm, ⟨43, _⟩ => ⟨S4096x8, .f32⟩
  | .hbm, ⟨44, _⟩ => ⟨S4096x8x1, .f32⟩
  | .hbm, ⟨45, _⟩ => ⟨S_, .f32⟩
  | .hbm, ⟨46, _⟩ => ⟨S4096x8x1, .f32⟩
  | .hbm, ⟨47, _⟩ => ⟨S4096x8x1, .f32⟩
  | .hbm, ⟨48, _⟩ => ⟨S_, .f32⟩
  | .hbm, ⟨49, _⟩ => ⟨S4096x8x1, .f32⟩
  | .hbm, ⟨50, _⟩ => ⟨S4096x8x1, .f32⟩
  | .hbm, ⟨51, _⟩ => ⟨S4096x8x1, .f32⟩
  | .hbm, ⟨52, _⟩ => ⟨S4096x8x128, .f32⟩
  | .hbm, ⟨53, _⟩ => ⟨S4096x8x128, .f32⟩
  | .hbm, ⟨54, _⟩ => ⟨S1x8x128, .f32⟩
  | .hbm, ⟨55, _⟩ => ⟨S4096x8x128, .f32⟩
  | .hbm, ⟨56, _⟩ => ⟨S4096x8x128, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]
-- ==== Proof.FfnMath.lean ====
/-
  The gated feed-forward layer over the extended reals, one row at a time: the normalised row, the gate, and the sum
  over the hidden units, which may be laid out in four shards of 704 units, each followed by 64 zero units.
-/
module

public import Idealize.ShloMosaic.Lib.Pointwise

@[expose] public section

noncomputable section

open Idealize.ShloMosaic

namespace Cert.FfnMath

/-- The reciprocal root of a row's mean square, with the constants as the programs spell them. -/
def rinv (h : Fin 1024 → EReal) : EReal :=
  Ideal.rsqrt (Ideal.div (∑ x, h x * h x) (Ideal.ofBits .f32 1149239296#32) + Ideal.ofBits .f32 897988541#32)

/-- A row normalised and scaled by the gain. -/
def nrm (h g : Fin 1024 → EReal) (k : Fin 1024) : EReal := h k * rinv h * g k

/-- A row against a column. -/
def dotp (n w : Fin 1024 → EReal) : EReal := ∑ x, n x * w x

/-- The gate times the value: `a σ(a) b`. -/
def act (a b : EReal) : EReal := a * Ideal.div 1 (1 + Ideal.exp (0 - a)) * b

/-- The layer's row: the residual and half of the sum over the hidden units. -/
def layer {ι : Type} [Fintype ι] (h g : Fin 1024 → EReal) (wg wu wd : ι → Fin 1024 → EReal) (d : Fin 1024) : EReal :=
  h d + Ideal.ofBits .f32 1056964608#32 * ∑ j, act (dotp (nrm h g) (wg j)) (dotp (nrm h g) (wu j)) * wd j d

/-- The place of unit `j` of shard `s` among all hidden units. -/
def place (s : Fin 4) (j : Fin 704) : Fin 2816 := ⟨704 * s.val + j.val, by omega⟩

/-- A sum over shards, each with its padding, is the sum over all units if the padding adds nothing. -/
theorem sum_shards {M : Type*} [AddCommMonoid M] (F : Fin 4 → Fin 768 → M) (G : Fin 2816 → M)
    (hF : ∀ s (j : Fin 704), F s ⟨j.val, by omega⟩ = G (place s j)) (hz : ∀ s (j : Fin 768), 704 ≤ j.val → F s j = 0) :
    ∑ s, ∑ j, F s j = ∑ f, G f := by
  have h1 : ∀ s, ∑ j, F s j = ∑ j : Fin 704, G (place s j) := fun s => by
    rw [Fin.sum_univ_add (a := 704) (b := 64) (F s)]
    rw [Finset.sum_eq_zero (s := Finset.univ) (f := fun i : Fin 64 => F s (Fin.natAdd 704 i)) (fun i _ => hz s _ (by simp)), add_zero]
    exact Finset.sum_congr rfl fun j _ => hF s j
  rw [Finset.sum_congr rfl fun s _ => h1 s, ← Fintype.sum_prod_type', ← Equiv.sum_comp (finProdFinEquiv (m := 4) (n := 704)) G]
  refine Finset.sum_congr rfl fun p _ => congrArg G (Fin.ext ?_)
  simp [place, finProdFinEquiv]; omega

end Cert.FfnMath

end
-- ==== Proof.BackwardMath.lean ====
/-
  The gradient of the gated feed-forward layer over the extended reals, one row at a time, from the cotangent of the
  layer's row: of the hidden units, of the normalised row, and of the row itself.
-/
module

public import proofs.«01_k».proof.Proof.FfnMath
public import Idealize.ShloMosaic.PureOps.Ideal.Laws

@[expose] public section

noncomputable section

open Idealize.ShloMosaic

namespace Cert.FfnMath

/-- The gate's function. -/
def sgm (a : EReal) : EReal := Ideal.div 1 (1 + Ideal.exp (0 - a))

/-- The cotangent of a hidden unit: half of the row's, through the unit's row of the last weight. -/
def dhid (ct wd : Fin 1024 → EReal) : EReal := ∑ x, Ideal.ofBits .f32 1056964608#32 * ct x * wd x

/-- The cotangent of the gate's product, from the unit's `s` and the two products `a` and `b`, -/
def dgate (s a b : EReal) : EReal := s * b * (sgm a * (1 + a * (1 - sgm a)))

/-- and of the value's product. -/
def dval (s a : EReal) : EReal := s * (a * sgm a)

/-- The cotangent of the normalised row, over the hidden units. -/
def dnrm {ι : Type} [Fintype ι] (ct : Fin 1024 → EReal) (a b : ι → EReal) (wg wu wd : ι → Fin 1024 → EReal) (d : Fin 1024) : EReal :=
  ∑ j, (dgate (dhid ct (wd j)) (a j) (b j) * wg j d + dval (dhid ct (wd j)) (a j) * wu j d)

/-- The cotangent of the row, from that of the normalised row: the residual's and the norm's. -/
def drow (ct h g n : Fin 1024 → EReal) (d : Fin 1024) : EReal :=
  ct d + rinv h * (n d * g d - h d * rinv h * Ideal.div (∑ x, n x * g x * (h x * rinv h)) (Ideal.ofBits .f32 1149239296#32))

/-- A row's part of the gain's cotangent. -/
def dgain (h n : Fin 1024 → EReal) (d : Fin 1024) : EReal := n d * (h d * rinv h)

/-! The same cotangents in the reference's form. -/

/-- The cotangent of the gate's product as a sum of two terms. -/
def dgate' (s a b : EReal) : EReal := s * b * sgm a + a * (s * b) * (sgm a * (1 - sgm a))

/-- The cotangent of the normalised row, the two weights' sums apart. -/
def dnrm' {ι : Type} [Fintype ι] (ct : Fin 1024 → EReal) (a b : ι → EReal) (wg wu wd : ι → Fin 1024 → EReal) (d : Fin 1024) : EReal :=
  ∑ j, a j * sgm (a j) * dhid ct (wd j) * wu j d + ∑ j, dgate' (dhid ct (wd j)) (a j) (b j) * wg j d

/-- The cotangent of the row, the reciprocal root differentiated. -/
def drow' (ct h g n : Fin 1024 → EReal) (d : Fin 1024) : EReal :=
  ct d + n d * g d * rinv h
    + Ideal.div ((∑ x, h x * (n x * g x)) * (Ideal.ofBits .f32 3204448256#32 * Ideal.div (rinv h) (Ideal.div (∑ x, h x * h x) (Ideal.ofBits .f32 1149239296#32) + Ideal.ofBits .f32 897988541#32)))
        (Ideal.ofBits .f32 1149239296#32) * (Ideal.ofBits .f32 1073741824#32 * h d)

/-! ## On the reals the two forms agree -/

/-- An extended real that is a real number. -/
def IsReal (x : EReal) : Prop := ∃ r : ℝ, x = (r : EReal)

theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

theorem isReal_add {x y : EReal} : IsReal x → IsReal y → IsReal (x + y) := fun ⟨a, ha⟩ ⟨b, hb⟩ => ⟨a + b, by rw [ha, hb, EReal.coe_add]⟩
theorem isReal_mul {x y : EReal} : IsReal x → IsReal y → IsReal (x * y) := fun ⟨a, ha⟩ ⟨b, hb⟩ => ⟨a * b, by rw [ha, hb, EReal.coe_mul]⟩
theorem isReal_sum {ι : Type} [Fintype ι] {f : ι → EReal} (h : ∀ i, IsReal (f i)) : IsReal (∑ i, f i) := by
  choose g hg using h
  exact ⟨∑ i, g i, by rw [coe_sum]; exact Finset.sum_congr rfl fun i _ => hg i⟩

theorem c_1024 : Ideal.ofBits .f32 1149239296#32 = ((1024 : ℝ) : EReal) := by
  simp [Ideal.ofBits, Ideal.ieee, -EReal.coe_mul]; norm_num
theorem c_half : Ideal.ofBits .f32 1056964608#32 = ((1 / 2 : ℝ) : EReal) := by
  simp [Ideal.ofBits, Ideal.ieee, -EReal.coe_mul]; norm_num
theorem c_neg_half : Ideal.ofBits .f32 3204448256#32 = ((-(1 / 2) : ℝ) : EReal) := by
  simp [Ideal.ofBits, Ideal.ieee, -EReal.coe_mul, -EReal.coe_neg]; norm_num
theorem c_inf : Ideal.ofBits .f32 0x7F800000#32 = ⊤ := by
  simp [Ideal.ofBits, Ideal.ieee]
theorem c_two : Ideal.ofBits .f32 1073741824#32 = ((2 : ℝ) : EReal) := by
  simp [Ideal.ofBits, Ideal.ieee, -EReal.coe_mul]; norm_num
theorem c_eps : ∃ e : ℝ, 0 < e ∧ Ideal.ofBits .f32 897988541#32 = (e : EReal) := by
  refine ⟨(2 ^ 23 + 407485 : ℝ) * 2 ^ (-43 : Int), by positivity, ?_⟩
  simp [Ideal.ofBits, Ideal.ieee, -EReal.coe_mul]; norm_num

theorem sgm_coe (a : ℝ) : sgm (a : EReal) = ((1 / (1 + Real.exp (0 - a)) : ℝ) : EReal) := by
  have h : (0 : ℝ) < 1 + Real.exp (0 - a) := by positivity
  unfold sgm
  rw [← EReal.coe_zero, ← EReal.coe_sub, Ideal.exp_coe, ← EReal.coe_one, ← EReal.coe_add, Ideal.div_coe h.ne', ← EReal.coe_mul, one_mul]

/-- The root's argument is a positive real, and so is the reciprocal root. -/
theorem rinv_coe (h : Fin 1024 → ℝ) : ∃ q r : ℝ, q ≠ 0 ∧ r * r = 1 / q ∧ rinv (fun k => (h k : EReal)) = (r : EReal)
    ∧ Ideal.div (∑ x, (h x : EReal) * (h x : EReal)) (Ideal.ofBits .f32 1149239296#32) + Ideal.ofBits .f32 897988541#32 = (q : EReal) := by
  obtain ⟨e, he, hE⟩ := c_eps
  have hq : 0 < (∑ x, h x * h x) * (1 / 1024) + e :=
    add_pos_of_nonneg_of_pos (mul_nonneg (Finset.sum_nonneg fun x _ => mul_self_nonneg _) (by norm_num)) he
  have hQ : Ideal.div (∑ x, (h x : EReal) * (h x : EReal)) (Ideal.ofBits .f32 1149239296#32) + Ideal.ofBits .f32 897988541#32
      = (((∑ x, h x * h x) * (1 / 1024) + e : ℝ) : EReal) := by
    rw [c_1024, hE, Ideal.div_coe (by norm_num), EReal.coe_add, EReal.coe_mul, coe_sum]
    simp only [EReal.coe_mul]
  refine ⟨_, (Real.sqrt ((∑ x, h x * h x) * (1 / 1024) + e))⁻¹, hq.ne', ?_, ?_, hQ⟩
  · rw [← mul_inv, Real.mul_self_sqrt hq.le]; exact (one_div _).symm
  · unfold rinv
    rw [hQ, Ideal.rsqrt_coe, if_neg (not_lt.mpr hq.le), if_neg hq.ne']

theorem isReal_rinv {h : Fin 1024 → EReal} (hh : ∀ k, IsReal (h k)) : IsReal (rinv h) := by
  choose a ha using hh
  obtain ⟨q, r, -, -, hr, -⟩ := rinv_coe a
  rw [show h = fun k => (a k : EReal) from funext ha]
  exact ⟨r, hr⟩

theorem isReal_dotp {n w : Fin 1024 → EReal} (hn : ∀ k, IsReal (n k)) (hw : ∀ k, IsReal (w k)) : IsReal (dotp n w) :=
  isReal_sum fun k => isReal_mul (hn k) (hw k)

theorem isReal_nrm {h g : Fin 1024 → EReal} (hh : ∀ k, IsReal (h k)) (hg : ∀ k, IsReal (g k)) (k : Fin 1024) : IsReal (nrm h g k) :=
  isReal_mul (isReal_mul (hh k) (isReal_rinv hh)) (hg k)

theorem isReal_dhid {ct wd : Fin 1024 → EReal} (hc : ∀ k, IsReal (ct k)) (hw : ∀ k, IsReal (wd k)) : IsReal (dhid ct wd) :=
  isReal_sum fun k => isReal_mul (isReal_mul ⟨_, c_half⟩ (hc k)) (hw k)

/-- The gate's derivative: one product against a sum of two. -/
theorem dgate_eq {s a b : EReal} (hs : IsReal s) (ha : IsReal a) (hb : IsReal b) : dgate s a b = dgate' s a b := by
  obtain ⟨s, rfl⟩ := hs; obtain ⟨a, rfl⟩ := ha; obtain ⟨b, rfl⟩ := hb
  unfold dgate dgate'
  rw [sgm_coe, ← EReal.coe_one]
  simp only [← EReal.coe_mul, ← EReal.coe_add, ← EReal.coe_sub]
  refine congrArg Real.toEReal ?_
  ring

theorem isReal_sgm {a : EReal} (ha : IsReal a) : IsReal (sgm a) := by
  obtain ⟨a, rfl⟩ := ha
  exact ⟨_, sgm_coe a⟩

theorem isReal_dval {s a : EReal} (hs : IsReal s) (ha : IsReal a) : IsReal (dval s a) :=
  isReal_mul hs (isReal_mul ha (isReal_sgm ha))

theorem isReal_dgate' {s a b : EReal} (hs : IsReal s) (ha : IsReal a) (hb : IsReal b) : IsReal (dgate' s a b) := by
  obtain ⟨s, rfl⟩ := hs; obtain ⟨a, rfl⟩ := ha; obtain ⟨b, rfl⟩ := hb
  unfold dgate'
  rw [sgm_coe, ← EReal.coe_one]
  simp only [← EReal.coe_mul, ← EReal.coe_add, ← EReal.coe_sub]
  exact ⟨_, rfl⟩

section
variable {ι : Type} [Fintype ι] {ct : Fin 1024 → EReal} {a b : ι → EReal} {wg wu wd : ι → Fin 1024 → EReal}
  (hc : ∀ k, IsReal (ct k)) (ha : ∀ j, IsReal (a j)) (hb : ∀ j, IsReal (b j))
  (hg : ∀ j k, IsReal (wg j k)) (hu : ∀ j k, IsReal (wu j k)) (hd : ∀ j k, IsReal (wd j k))
include hc ha hb hd

theorem dnrm_eq (d : Fin 1024) : dnrm ct a b wg wu wd d = dnrm' ct a b wg wu wd d := by
  unfold dnrm dnrm'
  rw [Finset.sum_add_distrib, add_comm]
  refine congrArg₂ (· + ·) (Finset.sum_congr rfl fun j _ => ?_) (Finset.sum_congr rfl fun j _ => ?_)
  · unfold dval; rw [mul_comm (dhid ct (wd j))]
  · rw [dgate_eq (isReal_dhid hc (hd j)) (ha j) (hb j)]

include hg hu

theorem isReal_dnrm' (d : Fin 1024) : IsReal (dnrm' ct a b wg wu wd d) :=
  isReal_add (isReal_sum fun j => isReal_mul (isReal_mul (isReal_mul (ha j) (isReal_sgm (ha j))) (isReal_dhid hc (hd j))) (hu j d))
    (isReal_sum fun j => isReal_mul (isReal_dgate' (isReal_dhid hc (hd j)) (ha j) (hb j)) (hg j d))
end

/-- The norm's derivative: the projection against the differentiated root. -/
theorem drow_eq {ct h g n : Fin 1024 → EReal} (hc : ∀ k, IsReal (ct k)) (hh : ∀ k, IsReal (h k)) (hg : ∀ k, IsReal (g k))
    (hn : ∀ k, IsReal (n k)) (d : Fin 1024) : drow ct h g n d = drow' ct h g n d := by
  choose ct hc using hc; choose h hh using hh; choose g hg using hg; choose n hn using hn
  obtain rfl := funext hc; obtain rfl := funext hh; obtain rfl := funext hg; obtain rfl := funext hn
  obtain ⟨q, r, hq, hrr, hr, hQ⟩ := rinv_coe h
  unfold drow drow'
  rw [hr, hQ, c_1024, c_neg_half, c_two, Ideal.div_coe (by norm_num), Ideal.div_coe hq, Ideal.div_coe (by norm_num)]
  simp only [← EReal.coe_mul, ← EReal.coe_add, ← EReal.coe_sub, ← coe_sum]
  refine congrArg Real.toEReal ?_
  have hs : ∑ x, n x * g x * (h x * r) = r * ∑ x, h x * (n x * g x) := by
    rw [Finset.mul_sum]
    exact Finset.sum_congr rfl fun x _ => by ring
  rw [hs, ← hrr]
  ring

theorem dgain_eq (h n : Fin 1024 → EReal) (d : Fin 1024) : dgain h n d = h d * rinv h * n d := mul_comm _ _

end Cert.FfnMath

end
-- ==== Proof.Backward.lean ====
/-
  The gradient of the gated feed-forward layer's input and gain: sixteen blocks of 256 rows, the hidden units in four
  padded shards whose contributions are added one after another, the gain's gradient added up over the blocks. What one
  block computes, and what the two output arrays hold.
-/
module

public import proofs.«01_k».proof.Proof.BackwardMath
public import proofs.«01_k».proof.Proof.Gen.KernelIdeal.Value
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Backward

open Cert.KernelIdeal Cert.KernelIdeal.Gen Cert.FfnMath

variable (m : (ℓ : Loc nD τ sig) → Buf (Elt Ideal) ℓ) (ρ : Dev nD → PrngReg)

/-- The cotangent of the block's normalised rows: the body's term over the blocks it reads (cotangent, products, weights). -/
def dnBlk (x0 : Vec Ideal S256x1024 .f32) (x2 x3 : Vec Ideal S4x256x768 .bf16) (x5 x6 x7 : Vec Ideal S4x768x1024 .bf16) : FVec Ideal S256x1024 .f32 :=
  k0_pay1
    (k0_pay46 (k0_pay9 x0) (k0_pay35 (k0_pay24 (k0_pay19 (k0_pay9 x0) (k0_pay11 (View.ld x2 (Rect.unit ![0, 0, 0] ![1,
    256, 768] inb_S4x256x768_S1x256x768_0_0_0))) (k0_pay13 (View.ld x2 (Rect.unit ![0, 0, 0] ![1, 256, 768]
    inb_S4x256x768_S1x256x768_0_0_0))) (View.ld x7 (Rect.unit ![0, 0, 0] ![1, 768, 1024]
    inb_S4x768x1024_S1x768x1024_0_0_0))) (k0_pay22 (k0_pay9 x0) k0_pay10 (k0_pay11 (View.ld x2 (Rect.unit ![0, 0, 0] ![1,
    256, 768] inb_S4x256x768_S1x256x768_0_0_0))) (k0_pay12 (View.ld x3 (Rect.unit ![0, 0, 0] ![1, 256, 768]
    inb_S4x256x768_S1x256x768_0_0_0))) (k0_pay13 (View.ld x2 (Rect.unit ![0, 0, 0] ![1, 256, 768]
    inb_S4x256x768_S1x256x768_0_0_0))) (View.ld x7 (Rect.unit ![0, 0, 0] ![1, 768, 1024]
    inb_S4x768x1024_S1x768x1024_0_0_0)) (View.ld x5 (Rect.unit ![0, 0, 0] ![1, 768, 1024]
    inb_S4x768x1024_S1x768x1024_0_0_0))) (k0_pay23 (View.ld x6 (Rect.unit ![0, 0, 0] ![1, 768, 1024]
    inb_S4x768x1024_S1x768x1024_0_0_0)))) (k0_pay31 (k0_pay9 x0) (View.ld x2 (Rect.unit ![1, 0, 0] ![1, 256, 768]
    inb_S4x256x768_S1x256x768_1_0_0)) (View.ld x3 (Rect.unit ![1, 0, 0] ![1, 256, 768] inb_S4x256x768_S1x256x768_1_0_0))
    (View.ld x7 (Rect.unit ![1, 0, 0] ![1, 768, 1024] inb_S4x768x1024_S1x768x1024_1_0_0))) (k0_pay32 (k0_pay9 x0) (View.ld
    x2 (Rect.unit ![1, 0, 0] ![1, 256, 768] inb_S4x256x768_S1x256x768_1_0_0)) (View.ld x7 (Rect.unit ![1, 0, 0] ![1, 768,
    1024] inb_S4x768x1024_S1x768x1024_1_0_0))) (View.ld x5 (Rect.unit ![1, 0, 0] ![1, 768, 1024]
    inb_S4x768x1024_S1x768x1024_1_0_0)) (View.ld x6 (Rect.unit ![1, 0, 0] ![1, 768, 1024]
    inb_S4x768x1024_S1x768x1024_1_0_0))) (k0_pay36 (View.ld x2 (Rect.unit ![2, 0, 0] ![1, 256, 768]
    inb_S4x256x768_S1x256x768_2_0_0))) (k0_pay37 (View.ld x3 (Rect.unit ![2, 0, 0] ![1, 256, 768]
    inb_S4x256x768_S1x256x768_2_0_0))) (k0_pay38 (View.ld x2 (Rect.unit ![2, 0, 0] ![1, 256, 768]
    inb_S4x256x768_S1x256x768_2_0_0))) (k0_pay39 (View.ld x2 (Rect.unit ![2, 0, 0] ![1, 256, 768]
    inb_S4x256x768_S1x256x768_2_0_0))) (View.ld x7 (Rect.unit ![2, 0, 0] ![1, 768, 1024]
    inb_S4x768x1024_S1x768x1024_2_0_0)) (View.ld x5 (Rect.unit ![2, 0, 0] ![1, 768, 1024]
    inb_S4x768x1024_S1x768x1024_2_0_0)) (View.ld x6 (Rect.unit ![2, 0, 0] ![1, 768, 1024]
    inb_S4x768x1024_S1x768x1024_2_0_0)))
    (k0_pay54 (k0_pay9 x0) (k0_pay47 (View.ld x2 (Rect.unit ![3, 0, 0] ![1, 256, 768] inb_S4x256x768_S1x256x768_3_0_0)))
    (FloatOps.ofBits FTy.f32 0#32) (View.ld x7 (Rect.unit ![3, 0, 0] ![1, 768, 1024] inb_S4x768x1024_S1x768x1024_3_0_0)))
    (k0_pay57 (k0_pay9 x0) (k0_pay47 (View.ld x2 (Rect.unit ![3, 0, 0] ![1, 256, 768] inb_S4x256x768_S1x256x768_3_0_0)))
    (k0_pay48 (View.ld x3 (Rect.unit ![3, 0, 0] ![1, 256, 768] inb_S4x256x768_S1x256x768_3_0_0))) (FloatOps.ofBits FTy.f32
    0#32) (View.ld x7 (Rect.unit ![3, 0, 0] ![1, 768, 1024] inb_S4x768x1024_S1x768x1024_3_0_0)) (View.ld x5 (Rect.unit
    ![3, 0, 0] ![1, 768, 1024] inb_S4x768x1024_S1x768x1024_3_0_0)))
    (View.ld x6 (Rect.unit ![3, 0, 0] ![1, 768, 1024] inb_S4x768x1024_S1x768x1024_3_0_0))

/-- At an index: the sum over the units of the four shards. -/
theorem dnBlk_apply (x0 : Vec Ideal S256x1024 .f32) (x2 x3 : Vec Ideal S4x256x768 .bf16) (x5 x6 x7 : Vec Ideal S4x768x1024 .bf16) (r : Fin 256) (d : Fin 1024) :
    dnBlk x0 x2 x3 x5 x6 x7 (ix2 r d) = dnrm (ι := Fin 4 × Fin 768) (fun k => x0 (ix2 r k)) (fun p => x2 (ix3 p.1 r p.2))
      (fun p => x3 (ix3 p.1 r p.2)) (fun p k => x5 (ix3 p.1 p.2 k)) (fun p k => x6 (ix3 p.1 p.2 k)) (fun p k => x7 (ix3 p.1 p.2 k)) d := by
  unfold dnBlk dnrm
  rw [Fintype.sum_prod_type, Fin.sum_univ_four]
  pointwise [k0_pay1, k0_pay9, k0_pay10, k0_pay11, k0_pay12, k0_pay13, k0_pay14, k0_pay15, k0_pay17, k0_pay18, k0_pay19, k0_pay22, k0_pay23, k0_pay24,
    k0_pay25, k0_pay26, k0_pay27, k0_pay28, k0_pay30, k0_pay31, k0_pay32, k0_pay35, k0_pay36, k0_pay37, k0_pay38, k0_pay39, k0_pay41, k0_pay42, k0_pay43, k0_pay46,
    k0_pay47, k0_pay48, k0_pay49, k0_pay50, k0_pay52, k0_pay53, k0_pay54, k0_pay57]
  simp only [dgate, dval, dhid, sgm, Finset.sum_add_distrib, add_assoc]

/-- What the body leaves for the row's cotangent, -/
def dhBlk (x0 x1 : Vec Ideal S256x1024 .f32) (x2 x3 : Vec Ideal S4x256x768 .bf16) (x4 : Vec Ideal S1x1024 .f32)
    (x5 x6 x7 : Vec Ideal S4x768x1024 .bf16) : FVec Ideal S256x1024 .f32 :=
  k0_pay4 x1 (k0_pay6 x4) (k0_pay7 x1)
    (k0_pay46 (k0_pay9 x0) (k0_pay35 (k0_pay24 (k0_pay19 (k0_pay9 x0) (k0_pay11 (View.ld x2 (Rect.unit ![0, 0, 0] ![1,
    256, 768] inb_S4x256x768_S1x256x768_0_0_0))) (k0_pay13 (View.ld x2 (Rect.unit ![0, 0, 0] ![1, 256, 768]
    inb_S4x256x768_S1x256x768_0_0_0))) (View.ld x7 (Rect.unit ![0, 0, 0] ![1, 768, 1024]
    inb_S4x768x1024_S1x768x1024_0_0_0))) (k0_pay22 (k0_pay9 x0) k0_pay10 (k0_pay11 (View.ld x2 (Rect.unit ![0, 0, 0] ![1,
    256, 768] inb_S4x256x768_S1x256x768_0_0_0))) (k0_pay12 (View.ld x3 (Rect.unit ![0, 0, 0] ![1, 256, 768]
    inb_S4x256x768_S1x256x768_0_0_0))) (k0_pay13 (View.ld x2 (Rect.unit ![0, 0, 0] ![1, 256, 768]
    inb_S4x256x768_S1x256x768_0_0_0))) (View.ld x7 (Rect.unit ![0, 0, 0] ![1, 768, 1024]
    inb_S4x768x1024_S1x768x1024_0_0_0)) (View.ld x5 (Rect.unit ![0, 0, 0] ![1, 768, 1024]
    inb_S4x768x1024_S1x768x1024_0_0_0))) (k0_pay23 (View.ld x6 (Rect.unit ![0, 0, 0] ![1, 768, 1024]
    inb_S4x768x1024_S1x768x1024_0_0_0)))) (k0_pay31 (k0_pay9 x0) (View.ld x2 (Rect.unit ![1, 0, 0] ![1, 256, 768]
    inb_S4x256x768_S1x256x768_1_0_0)) (View.ld x3 (Rect.unit ![1, 0, 0] ![1, 256, 768] inb_S4x256x768_S1x256x768_1_0_0))
    (View.ld x7 (Rect.unit ![1, 0, 0] ![1, 768, 1024] inb_S4x768x1024_S1x768x1024_1_0_0))) (k0_pay32 (k0_pay9 x0) (View.ld
    x2 (Rect.unit ![1, 0, 0] ![1, 256, 768] inb_S4x256x768_S1x256x768_1_0_0)) (View.ld x7 (Rect.unit ![1, 0, 0] ![1, 768,
    1024] inb_S4x768x1024_S1x768x1024_1_0_0))) (View.ld x5 (Rect.unit ![1, 0, 0] ![1, 768, 1024]
    inb_S4x768x1024_S1x768x1024_1_0_0)) (View.ld x6 (Rect.unit ![1, 0, 0] ![1, 768, 1024]
    inb_S4x768x1024_S1x768x1024_1_0_0))) (k0_pay36 (View.ld x2 (Rect.unit ![2, 0, 0] ![1, 256, 768]
    inb_S4x256x768_S1x256x768_2_0_0))) (k0_pay37 (View.ld x3 (Rect.unit ![2, 0, 0] ![1, 256, 768]
    inb_S4x256x768_S1x256x768_2_0_0))) (k0_pay38 (View.ld x2 (Rect.unit ![2, 0, 0] ![1, 256, 768]
    inb_S4x256x768_S1x256x768_2_0_0))) (k0_pay39 (View.ld x2 (Rect.unit ![2, 0, 0] ![1, 256, 768]
    inb_S4x256x768_S1x256x768_2_0_0))) (View.ld x7 (Rect.unit ![2, 0, 0] ![1, 768, 1024]
    inb_S4x768x1024_S1x768x1024_2_0_0)) (View.ld x5 (Rect.unit ![2, 0, 0] ![1, 768, 1024]
    inb_S4x768x1024_S1x768x1024_2_0_0)) (View.ld x6 (Rect.unit ![2, 0, 0] ![1, 768, 1024]
    inb_S4x768x1024_S1x768x1024_2_0_0)))
    (k0_pay54 (k0_pay9 x0) (k0_pay47 (View.ld x2 (Rect.unit ![3, 0, 0] ![1, 256, 768] inb_S4x256x768_S1x256x768_3_0_0)))
    (FloatOps.ofBits FTy.f32 0#32) (View.ld x7 (Rect.unit ![3, 0, 0] ![1, 768, 1024] inb_S4x768x1024_S1x768x1024_3_0_0)))
    (k0_pay57 (k0_pay9 x0) (k0_pay47 (View.ld x2 (Rect.unit ![3, 0, 0] ![1, 256, 768] inb_S4x256x768_S1x256x768_3_0_0)))
    (k0_pay48 (View.ld x3 (Rect.unit ![3, 0, 0] ![1, 256, 768] inb_S4x256x768_S1x256x768_3_0_0))) (FloatOps.ofBits FTy.f32
    0#32) (View.ld x7 (Rect.unit ![3, 0, 0] ![1, 768, 1024] inb_S4x768x1024_S1x768x1024_3_0_0)) (View.ld x5 (Rect.unit
    ![3, 0, 0] ![1, 768, 1024] inb_S4x768x1024_S1x768x1024_3_0_0)))
    (View.ld x6 (Rect.unit ![3, 0, 0] ![1, 768, 1024] inb_S4x768x1024_S1x768x1024_3_0_0)) x0

/-- and its part of the gain's. -/
def dgBlk (x0 x1 : Vec Ideal S256x1024 .f32) (x2 x3 : Vec Ideal S4x256x768 .bf16) (x5 x6 x7 : Vec Ideal S4x768x1024 .bf16) : FVec Ideal S1x1024 .f32 :=
  k0_pay3 x1 (k0_pay7 x1)
    (k0_pay46 (k0_pay9 x0) (k0_pay35 (k0_pay24 (k0_pay19 (k0_pay9 x0) (k0_pay11 (View.ld x2 (Rect.unit ![0, 0, 0] ![1,
    256, 768] inb_S4x256x768_S1x256x768_0_0_0))) (k0_pay13 (View.ld x2 (Rect.unit ![0, 0, 0] ![1, 256, 768]
    inb_S4x256x768_S1x256x768_0_0_0))) (View.ld x7 (Rect.unit ![0, 0, 0] ![1, 768, 1024]
    inb_S4x768x1024_S1x768x1024_0_0_0))) (k0_pay22 (k0_pay9 x0) k0_pay10 (k0_pay11 (View.ld x2 (Rect.unit ![0, 0, 0] ![1,
    256, 768] inb_S4x256x768_S1x256x768_0_0_0))) (k0_pay12 (View.ld x3 (Rect.unit ![0, 0, 0] ![1, 256, 768]
    inb_S4x256x768_S1x256x768_0_0_0))) (k0_pay13 (View.ld x2 (Rect.unit ![0, 0, 0] ![1, 256, 768]
    inb_S4x256x768_S1x256x768_0_0_0))) (View.ld x7 (Rect.unit ![0, 0, 0] ![1, 768, 1024]
    inb_S4x768x1024_S1x768x1024_0_0_0)) (View.ld x5 (Rect.unit ![0, 0, 0] ![1, 768, 1024]
    inb_S4x768x1024_S1x768x1024_0_0_0))) (k0_pay23 (View.ld x6 (Rect.unit ![0, 0, 0] ![1, 768, 1024]
    inb_S4x768x1024_S1x768x1024_0_0_0)))) (k0_pay31 (k0_pay9 x0) (View.ld x2 (Rect.unit ![1, 0, 0] ![1, 256, 768]
    inb_S4x256x768_S1x256x768_1_0_0)) (View.ld x3 (Rect.unit ![1, 0, 0] ![1, 256, 768] inb_S4x256x768_S1x256x768_1_0_0))
    (View.ld x7 (Rect.unit ![1, 0, 0] ![1, 768, 1024] inb_S4x768x1024_S1x768x1024_1_0_0))) (k0_pay32 (k0_pay9 x0) (View.ld
    x2 (Rect.unit ![1, 0, 0] ![1, 256, 768] inb_S4x256x768_S1x256x768_1_0_0)) (View.ld x7 (Rect.unit ![1, 0, 0] ![1, 768,
    1024] inb_S4x768x1024_S1x768x1024_1_0_0))) (View.ld x5 (Rect.unit ![1, 0, 0] ![1, 768, 1024]
    inb_S4x768x1024_S1x768x1024_1_0_0)) (View.ld x6 (Rect.unit ![1, 0, 0] ![1, 768, 1024]
    inb_S4x768x1024_S1x768x1024_1_0_0))) (k0_pay36 (View.ld x2 (Rect.unit ![2, 0, 0] ![1, 256, 768]
    inb_S4x256x768_S1x256x768_2_0_0))) (k0_pay37 (View.ld x3 (Rect.unit ![2, 0, 0] ![1, 256, 768]
    inb_S4x256x768_S1x256x768_2_0_0))) (k0_pay38 (View.ld x2 (Rect.unit ![2, 0, 0] ![1, 256, 768]
    inb_S4x256x768_S1x256x768_2_0_0))) (k0_pay39 (View.ld x2 (Rect.unit ![2, 0, 0] ![1, 256, 768]
    inb_S4x256x768_S1x256x768_2_0_0))) (View.ld x7 (Rect.unit ![2, 0, 0] ![1, 768, 1024]
    inb_S4x768x1024_S1x768x1024_2_0_0)) (View.ld x5 (Rect.unit ![2, 0, 0] ![1, 768, 1024]
    inb_S4x768x1024_S1x768x1024_2_0_0)) (View.ld x6 (Rect.unit ![2, 0, 0] ![1, 768, 1024]
    inb_S4x768x1024_S1x768x1024_2_0_0)))
    (k0_pay54 (k0_pay9 x0) (k0_pay47 (View.ld x2 (Rect.unit ![3, 0, 0] ![1, 256, 768] inb_S4x256x768_S1x256x768_3_0_0)))
    (FloatOps.ofBits FTy.f32 0#32) (View.ld x7 (Rect.unit ![3, 0, 0] ![1, 768, 1024] inb_S4x768x1024_S1x768x1024_3_0_0)))
    (k0_pay57 (k0_pay9 x0) (k0_pay47 (View.ld x2 (Rect.unit ![3, 0, 0] ![1, 256, 768] inb_S4x256x768_S1x256x768_3_0_0)))
    (k0_pay48 (View.ld x3 (Rect.unit ![3, 0, 0] ![1, 256, 768] inb_S4x256x768_S1x256x768_3_0_0))) (FloatOps.ofBits FTy.f32
    0#32) (View.ld x7 (Rect.unit ![3, 0, 0] ![1, 768, 1024] inb_S4x768x1024_S1x768x1024_3_0_0)) (View.ld x5 (Rect.unit
    ![3, 0, 0] ![1, 768, 1024] inb_S4x768x1024_S1x768x1024_3_0_0)))
    (View.ld x6 (Rect.unit ![3, 0, 0] ![1, 768, 1024] inb_S4x768x1024_S1x768x1024_3_0_0))

/-- A row of the cotangent of the block's normalised rows. -/
abbrev nRow (x0 : Vec Ideal S256x1024 .f32) (x2 x3 : Vec Ideal S4x256x768 .bf16) (x5 x6 x7 : Vec Ideal S4x768x1024 .bf16) (r : Fin 256) : Fin 1024 → EReal :=
  dnrm (ι := Fin 4 × Fin 768) (fun k => x0 (ix2 r k)) (fun p => x2 (ix3 p.1 r p.2)) (fun p => x3 (ix3 p.1 r p.2))
    (fun p k => x5 (ix3 p.1 p.2 k)) (fun p k => x6 (ix3 p.1 p.2 k)) (fun p k => x7 (ix3 p.1 p.2 k))

theorem dhBlk_apply (x0 x1 : Vec Ideal S256x1024 .f32) (x2 x3 : Vec Ideal S4x256x768 .bf16) (x4 : Vec Ideal S1x1024 .f32)
    (x5 x6 x7 : Vec Ideal S4x768x1024 .bf16) (r : Fin 256) (d : Fin 1024) :
    dhBlk x0 x1 x2 x3 x4 x5 x6 x7 (ix2 r d)
      = drow (fun k => x0 (ix2 r k)) (fun k => x1 (ix2 r k)) (fun k => x4 (ix2 0 k)) (nRow x0 x2 x3 x5 x6 x7 r) d := by
  unfold dhBlk k0_pay4
  rw [show k0_pay1 _ _ _ _ = dnBlk x0 x2 x3 x5 x6 x7 from rfl]
  pointwise [k0_pay2, k0_pay6, k0_pay7]
  simp only [dnBlk_apply]
  rfl

theorem dgBlk_apply (x0 x1 : Vec Ideal S256x1024 .f32) (x2 x3 : Vec Ideal S4x256x768 .bf16) (x5 x6 x7 : Vec Ideal S4x768x1024 .bf16) (a : Fin 1) (d : Fin 1024) :
    dgBlk x0 x1 x2 x3 x5 x6 x7 (ix2 a d) = ∑ r, dgain (fun k => x1 (ix2 r k)) (nRow x0 x2 x3 x5 x6 x7 r) d := by
  unfold dgBlk k0_pay3
  rw [show k0_pay1 _ _ _ _ = dnBlk x0 x2 x3 x5 x6 x7 from rfl]
  pointwise [k0_pay2, k0_pay7]
  simp only [dnBlk_apply]
  rfl

/-! ## The output arrays -/

/-- The arrays the region works on: the cotangent, the rows, the two products, the gain, the three padded weights. -/
abbrev cot (c : Dev nD) : FVec Ideal S4096x1024 .f32 := V m c main_arg0
abbrev rows (c : Dev nD) : FVec Ideal S4096x1024 .f32 := V m c main_arg1
abbrev prodA (c : Dev nD) : FVec Ideal S4x4096x768 .bf16 := V m c main_v18
abbrev prodB (c : Dev nD) : FVec Ideal S4x4096x768 .bf16 := V m c main_v22
abbrev gain (c : Dev nD) : FVec Ideal S1x1024 .f32 := V m c main_v23
abbrev gate (c : Dev nD) : FVec Ideal S4x768x1024 .bf16 := V m c main_v27
abbrev up (c : Dev nD) : FVec Ideal S4x768x1024 .bf16 := V m c main_v31
abbrev down (c : Dev nD) : FVec Ideal S4x768x1024 .bf16 := V m c main_v34

/-- The cotangent of row `r` of the normalised rows. -/
def nAll (c : Dev nD) (r : Fin 4096) : Fin 1024 → EReal :=
  dnrm (ι := Fin 4 × Fin 768) (fun k => cot m c (ix2 r k)) (fun p => prodA m c (ix3 p.1 r p.2)) (fun p => prodB m c (ix3 p.1 r p.2))
    (fun p k => gate m c (ix3 p.1 p.2 k)) (fun p k => up m c (ix3 p.1 p.2 k)) (fun p k => down m c (ix3 p.1 p.2 k))

/-- What the first output array is shown to hold, -/
def resRow (c : Dev nD) : FVec Ideal S4096x1024 .f32 := fun i =>
  drow (fun k => cot m c (ix2 (i 0) k)) (fun k => rows m c (ix2 (i 0) k)) (fun k => gain m c (ix2 0 k)) (nAll m c (i 0)) (i 1)

/-- and the second. -/
def resGain (c : Dev nD) : FVec Ideal S1x1024 .f32 := fun i =>
  ∑ r : Fin 4096, dgain (fun k => rows m c (ix2 r k)) (nAll m c r) (i 1)

theorem index_facts : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = t.val ∧ win0_8.index t 1 = 0) :=
  (by decide +kernel : ∀ t : Fin grid0.N, _)

theorem lt16 (t : Fin cfg0.N) : t.val < 16 := lt_of_lt_of_eq t.isLt N_0

/-- Row `r` of block `t` among all rows. -/
def row (t : Fin cfg0.N) (r : Fin 256) : Fin 4096 := ⟨t.val * 256 + r.val, by have := lt16 t; omega⟩

/-- Point `t` reads the rows of block `t`, -/
theorem iblk0 (c : Dev nD) (t : Fin cfg0.N) (r : Fin 256) (k : Fin 1024) :
    (iblk m c 0 t : Vec Ideal S256x1024 .f32) (ix2 r k) = cot m c (ix2 (row t r) k) := by
  obtain ⟨⟨h0, h1⟩, -⟩ := index_facts t
  show cot m c _ = _
  refine congrArg (cot m c) (funext fun x => Fin.ext ?_)
  match x with
  | ⟨0, _⟩ => show win0_0.index t 0 * 256 + 1 * r.val = t.val * 256 + r.val; rw [h0]; omega
  | ⟨1, _⟩ => show win0_0.index t 1 * 1024 + 1 * k.val = k.val; rw [h1]; omega

theorem iblk1 (c : Dev nD) (t : Fin cfg0.N) (r : Fin 256) (k : Fin 1024) :
    (iblk m c 1 t : Vec Ideal S256x1024 .f32) (ix2 r k) = rows m c (ix2 (row t r) k) := by
  obtain ⟨-, ⟨h0, h1⟩, -⟩ := index_facts t
  show rows m c _ = _
  refine congrArg (rows m c) (funext fun x => Fin.ext ?_)
  match x with
  | ⟨0, _⟩ => show win0_1.index t 0 * 256 + 1 * r.val = t.val * 256 + r.val; rw [h0]; omega
  | ⟨1, _⟩ => show win0_1.index t 1 * 1024 + 1 * k.val = k.val; rw [h1]; omega

theorem iblk2 (c : Dev nD) (t : Fin cfg0.N) (s : Fin 4) (r : Fin 256) (j : Fin 768) :
    (iblk m c 2 t : Vec Ideal S4x256x768 .bf16) (ix3 s r j) = prodA m c (ix3 s (row t r) j) := by
  obtain ⟨-, -, ⟨h0, h1, h2⟩, -⟩ := index_facts t
  show prodA m c _ = _
  refine congrArg (prodA m c) (funext fun x => Fin.ext ?_)
  match x with
  | ⟨0, _⟩ => show win0_2.index t 0 * 4 + 1 * s.val = s.val; rw [h0]; omega
  | ⟨1, _⟩ => show win0_2.index t 1 * 256 + 1 * r.val = t.val * 256 + r.val; rw [h1]; omega
  | ⟨2, _⟩ => show win0_2.index t 2 * 768 + 1 * j.val = j.val; rw [h2]; omega

theorem iblk3 (c : Dev nD) (t : Fin cfg0.N) (s : Fin 4) (r : Fin 256) (j : Fin 768) :
    (iblk m c 3 t : Vec Ideal S4x256x768 .bf16) (ix3 s r j) = prodB m c (ix3 s (row t r) j) := by
  obtain ⟨-, -, -, ⟨h0, h1, h2⟩, -⟩ := index_facts t
  show prodB m c _ = _
  refine congrArg (prodB m c) (funext fun x => Fin.ext ?_)
  match x with
  | ⟨0, _⟩ => show win0_3.index t 0 * 4 + 1 * s.val = s.val; rw [h0]; omega
  | ⟨1, _⟩ => show win0_3.index t 1 * 256 + 1 * r.val = t.val * 256 + r.val; rw [h1]; omega
  | ⟨2, _⟩ => show win0_3.index t 2 * 768 + 1 * j.val = j.val; rw [h2]; omega

/-- and the gain and the weights whole. -/
theorem iblk4 (c : Dev nD) (t : Fin cfg0.N) : (iblk m c 4 t : Vec Ideal S1x1024 .f32) = gain m c := by
  obtain ⟨-, -, -, -, ⟨h0, h1⟩, -⟩ := index_facts t
  funext (j : S1x1024.Idx)
  show gain m c _ = _
  refine congrArg (gain m c) (funext fun x => Fin.ext ?_)
  match x with
  | ⟨0, _⟩ => show win0_4.index t 0 * 1 + 1 * (j 0).val = (j 0).val; rw [h0]; omega
  | ⟨1, _⟩ => show win0_4.index t 1 * 1024 + 1 * (j 1).val = (j 1).val; rw [h1]; omega

theorem iblk5 (c : Dev nD) (t : Fin cfg0.N) : (iblk m c 5 t : Vec Ideal S4x768x1024 .bf16) = gate m c := by
  obtain ⟨-, -, -, -, -, ⟨h0, h1, h2⟩, -⟩ := index_facts t
  funext (j : S4x768x1024.Idx)
  show gate m c _ = _
  refine congrArg (gate m c) (funext fun x => Fin.ext ?_)
  match x with
  | ⟨0, _⟩ => show win0_5.index t 0 * 4 + 1 * (j 0).val = (j 0).val; rw [h0]; omega
  | ⟨1, _⟩ => show win0_5.index t 1 * 768 + 1 * (j 1).val = (j 1).val; rw [h1]; omega
  | ⟨2, _⟩ => show win0_5.index t 2 * 1024 + 1 * (j 2).val = (j 2).val; rw [h2]; omega

theorem iblk6 (c : Dev nD) (t : Fin cfg0.N) : (iblk m c 6 t : Vec Ideal S4x768x1024 .bf16) = up m c := by
  obtain ⟨-, -, -, -, -, -, ⟨h0, h1, h2⟩, -⟩ := index_facts t
  funext (j : S4x768x1024.Idx)
  show up m c _ = _
  refine congrArg (up m c) (funext fun x => Fin.ext ?_)
  match x with
  | ⟨0, _⟩ => show win0_6.index t 0 * 4 + 1 * (j 0).val = (j 0).val; rw [h0]; omega
  | ⟨1, _⟩ => show win0_6.index t 1 * 768 + 1 * (j 1).val = (j 1).val; rw [h1]; omega
  | ⟨2, _⟩ => show win0_6.index t 2 * 1024 + 1 * (j 2).val = (j 2).val; rw [h2]; omega

theorem iblk7 (c : Dev nD) (t : Fin cfg0.N) : (iblk m c 7 t : Vec Ideal S4x768x1024 .bf16) = down m c := by
  obtain ⟨-, -, -, -, -, -, -, ⟨h0, h1, h2⟩, -⟩ := index_facts t
  funext (j : S4x768x1024.Idx)
  show down m c _ = _
  refine congrArg (down m c) (funext fun x => Fin.ext ?_)
  match x with
  | ⟨0, _⟩ => show win0_7.index t 0 * 4 + 1 * (j 0).val = (j 0).val; rw [h0]; omega
  | ⟨1, _⟩ => show win0_7.index t 1 * 768 + 1 * (j 1).val = (j 1).val; rw [h1]; omega
  | ⟨2, _⟩ => show win0_7.index t 2 * 1024 + 1 * (j 2).val = (j 2).val; rw [h2]; omega

/-- So a block's cotangent of the normalised rows is that of its rows among all. -/
theorem nRow_blk (c : Dev nD) (t : Fin cfg0.N) (r : Fin 256) :
    nRow (iblk m c 0 t) (iblk m c 2 t) (iblk m c 3 t) (iblk m c 5 t) (iblk m c 6 t) (iblk m c 7 t) r = nAll m c (row t r) := by
  unfold nRow nAll
  rw [iblk5, iblk6, iblk7]
  simp only [iblk0, iblk2, iblk3]

/-- What a point leaves in the first output's buffer: the first point -/
theorem out8_A (c : Dev nD) (t : Fin cfg0.N) (h0 : t.val % 16 = 0) (h1 : ¬1 ≤ t.val) :
    (outsAt0 m c t.val t.isLt).1 = dhBlk (iblk m c 0 t) (iblk m c 1 t) (iblk m c 2 t) (iblk m c 3 t) (iblk m c 4 t) (iblk m c 5 t) (iblk m c 6 t) (iblk m c 7 t) := by
  rw [outsAt0_A m c t h0 h1]; dsimp only; frame_out; rfl

/-- and the later ones. -/
theorem out8_B (c : Dev nD) (t : Fin cfg0.N) (h0 : ¬t.val % 16 = 0) (h1 : 1 ≤ t.val) :
    (outsAt0 m c t.val t.isLt).1 = dhBlk (iblk m c 0 t) (iblk m c 1 t) (iblk m c 2 t) (iblk m c 3 t) (iblk m c 4 t) (iblk m c 5 t) (iblk m c 6 t) (iblk m c 7 t) := by
  rw [outsAt0_B m c t h0 h1]; dsimp only; frame_out; rfl

theorem out8 (c : Dev nD) (t : Fin cfg0.N) :
    (outsAt0 m c t.val t.isLt).1 = dhBlk (iblk m c 0 t) (iblk m c 1 t) (iblk m c 2 t) (iblk m c 3 t) (iblk m c 4 t) (iblk m c 5 t) (iblk m c 6 t) (iblk m c 7 t) := by
  have ht := lt16 t
  by_cases h : t.val = 0
  · exact out8_A m c t (by omega) (by omega)
  · exact out8_B m c t (by omega) (by omega)

/-- The second output's buffer: the first point writes its part, -/
theorem out9_A (c : Dev nD) (t : Fin cfg0.N) (h0 : t.val % 16 = 0) (h1 : ¬1 ≤ t.val) :
    (outsAt0 m c t.val t.isLt).2.1 = dgBlk (iblk m c 0 t) (iblk m c 1 t) (iblk m c 2 t) (iblk m c 3 t) (iblk m c 5 t) (iblk m c 6 t) (iblk m c 7 t) := by
  rw [outsAt0_A m c t h0 h1]; dsimp only; frame_out; rfl

/-- the later ones add theirs. -/
theorem out9_B (c : Dev nD) (t : Fin cfg0.N) (h0 : ¬t.val % 16 = 0) (h1 : 1 ≤ t.val) :
    (outsAt0 m c t.val t.isLt).2.1 = addf (F := Ideal) (shapeCast S1x1024 (outsAt0 m c (t.val - 1) (Nat.lt_of_le_of_lt (Nat.sub_le _ _) t.isLt)).2.1 shapeCasts_S1x1024_S1x1024)
      (dgBlk (iblk m c 0 t) (iblk m c 1 t) (iblk m c 2 t) (iblk m c 3 t) (iblk m c 5 t) (iblk m c 6 t) (iblk m c 7 t)) := by
  rw [outsAt0_B m c t h0 h1]; dsimp only; frame_out; rfl

/-- A block's part of the gain's cotangent. -/
def part (c : Dev nD) (t : Fin cfg0.N) (d : Fin 1024) : EReal := ∑ r : Fin 256, dgain (fun k => rows m c (ix2 (row t r) k)) (nAll m c (row t r)) d

theorem dgBlk_eq (c : Dev nD) (t : Fin cfg0.N) (a : Fin 1) (d : Fin 1024) :
    dgBlk (iblk m c 0 t) (iblk m c 1 t) (iblk m c 2 t) (iblk m c 3 t) (iblk m c 5 t) (iblk m c 6 t) (iblk m c 7 t) (ix2 a d) = part m c t d := by
  rw [dgBlk_apply]
  unfold part
  refine Finset.sum_congr rfl fun r _ => ?_
  rw [nRow_blk]
  simp only [iblk1]

/-- After point `n`: the parts of the points so far. -/
theorem out9 (c : Dev nD) (a : Fin 1) (d : Fin 1024) : ∀ n (h : n < cfg0.N),
    ((outsAt0 m c n h).2.1 (ix2 a d) : EReal) = ∑ p : Fin (n + 1), part m c ⟨p.val, lt_of_lt_of_le p.isLt h⟩ d
  | 0, h => by
    rw [out9_A m c ⟨0, h⟩ rfl (Nat.not_succ_le_zero 0), dgBlk_eq]
    simp
  | n + 1, h => by
    have hN : cfg0.N = 16 := N_0
    rw [out9_B m c ⟨n + 1, h⟩ (by show ¬(n + 1) % 16 = 0; omega) (Nat.le_add_left 1 n)]
    rw [Fin.sum_univ_castSucc]
    refine congrArg₂ (· + ·) ?_ (dgBlk_eq m c ⟨n + 1, h⟩ a d)
    pointwise
    exact out9 c a d n (Nat.lt_of_succ_lt h)

/-- What point `t` writes back is block `t` of the rows' cotangents. -/
theorem flushed_eq (c : Dev nD) (t : Fin cfg0.N) :
    (dats m 0 c).flushed 8 t = (win0_8.blk t).view.read (Elt Ideal) (resRow m c) := by
  show (cfg0.win 8).cut (grid0.coords t) ((dats m 0 c).after 8 t) = _
  rw [after0_8, out8]
  obtain ⟨-, -, -, -, -, -, -, -, h0, h1⟩ := index_facts t
  refine funext fun (j : S256x1024.Idx) => ?_
  obtain ⟨r, d, rfl⟩ : ∃ (r : Fin 256) (d : Fin 1024), j = ix2 r d := ⟨j 0, j 1, eq_ix2 j⟩
  refine (dhBlk_apply (iblk m c 0 t) (iblk m c 1 t) (iblk m c 2 t) (iblk m c 3 t) (iblk m c 4 t) (iblk m c 5 t) (iblk m c 6 t) (iblk m c 7 t) r d).trans ?_
  rw [nRow_blk, iblk4]
  simp only [iblk0, iblk1]
  show _ = resRow m c ((win0_8.rect t).emb (ix2 r d))
  have e : (win0_8.rect t).emb (ix2 r d) = (ix2 (row t r) d : S4096x1024.Idx) := by
    refine funext fun x => Fin.ext ?_
    match x with
    | ⟨0, _⟩ => show win0_8.index t 0 * 256 + 1 * r.val = t.val * 256 + r.val; rw [h0]; omega
    | ⟨1, _⟩ => show win0_8.index t 1 * 1024 + 1 * d.val = d.val; rw [h1]; omega
  rw [e]
  rfl

/-- The sixteen blocks tile the output. -/
theorem mem_blk (t : Fin cfg0.N) (i : S4096x1024.Idx) :
    i ∈ ((cfg0.win 8).blk t).view.set ↔ t.val * 256 ≤ (i 0 : Nat) ∧ (i 0 : Nat) < t.val * 256 + 256 := by
  show i ∈ ((View.whole main_v35_0).slice (win0_8.rect t)).set ↔ _
  rw [View.set_slice_whole, Rect.mem_set_unit]
  obtain ⟨-, -, -, -, -, -, -, -, h0, h1⟩ := index_facts t
  have l1 : (i 1 : Nat) < 1024 := (i 1).isLt
  refine ⟨fun h => ?_, fun h a => ?_⟩
  · have h' : win0_8.index t 0 * 256 ≤ (i 0 : Nat) ∧ (i 0 : Nat) < win0_8.index t 0 * 256 + 256 := h 0
    rw [h0] at h'; exact h'
  · match a with
    | ⟨0, _⟩ => show win0_8.index t 0 * 256 ≤ (i 0 : Nat) ∧ (i 0 : Nat) < win0_8.index t 0 * 256 + 256
                rw [h0]; exact h
    | ⟨1, _⟩ => show win0_8.index t 1 * 1024 ≤ (i 1 : Nat) ∧ (i 1 : Nat) < win0_8.index t 1 * 1024 + 1024
                rw [h1, Nat.zero_mul, Nat.zero_add]; exact ⟨Nat.zero_le _, l1⟩

theorem cover (i : S4096x1024.Idx) :
    ∃ t : Fin cfg0.N, (cfg0.win 8).flush t = true ∧ i ∈ ((cfg0.win 8).blk t).view.set := by
  have h0 : (i 0 : Nat) < 4096 := (i 0).isLt
  have hN : cfg0.N = 16 := N_0
  refine ⟨⟨(i 0 : Nat) / 256, by omega⟩, flush0_8 _, ?_⟩
  rw [mem_blk]
  dsimp only
  omega

/-- So the first output array ends holding the rows' cotangents, -/
theorem arrRow (c : Dev nD) : (dats m 0 c).arrAt 8 cfg0.N = resRow m c :=
  (dats m 0 c).arrAt_eq_of_cover 8 (resRow m c) (fun t _ => flushed_eq m c t) cover

/-- The blocks' parts together are the sum over all rows. -/
theorem sum_part (c : Dev nD) (d : Fin 1024) :
    ∑ p : Fin 16, part m c ⟨p.val, lt_of_lt_of_eq p.isLt N_0.symm⟩ d = ∑ r : Fin 4096, dgain (fun k => rows m c (ix2 r k)) (nAll m c r) d := by
  unfold part
  rw [← Fintype.sum_prod_type', ← Equiv.sum_comp (finProdFinEquiv (m := 16) (n := 256)) (fun r : Fin 4096 => dgain (fun k => rows m c (ix2 r k)) (nAll m c r) d)]
  refine Finset.sum_congr rfl fun p _ => ?_
  rw [show row ⟨p.1.val, lt_of_lt_of_eq p.1.isLt N_0.symm⟩ p.2 = (finProdFinEquiv (m := 16) (n := 256) p : Fin 4096) from
    Fin.ext (by simp [row, finProdFinEquiv]; omega)]

/-- and the second the gain's. -/
theorem arrGain (c : Dev nD) : (dats m 0 c).arrAt 9 cfg0.N = resGain m c := by
  refine (dats m 0 c).arrAt_eq_of_after_last 9 t0_15 (by decide +kernel) _ fun j => ?_
  blk_simp
  obtain ⟨a, d, rfl⟩ : ∃ (a : Fin 1) (d : Fin 1024), j = ix2 a d := ⟨j 0, j 1, eq_ix2 (n0 := 1) (n1 := 1024) j⟩
  rw [after0_9]
  exact (out9 m c a d 15 t0_15.isLt).trans (sum_part m c d)

end Cert.Backward

end
-- ==== Proof.BackwardRef.lean ====
/-
  What the reference computes for the two cotangents, read at an index.
-/
module

public import proofs.«01_k».proof.Proof.BackwardMath
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.BackwardRef

open Cert.ReferenceIdeal Cert.ReferenceIdeal.Gen Cert.FfnMath

variable (m : (ℓ : Loc nD τ sig) → Buf (Elt Ideal) ℓ) (c : Dev nD)

variable (ct h : FVec Ideal S4096x1024 .f32) (g : FVec Ideal S1024 .f32) (wg wu : FVec Ideal S1024x2816 .f32) (wd : FVec Ideal S2816x1024 .f32)

/-- A row of the normalised rows' cotangent. -/
abbrev nRow (r : Fin 4096) : Fin 1024 → EReal :=
  dnrm' (ι := Fin 2816) (fun k => ct (ix2 r k)) (fun f => dotp (nrm (fun k => h (ix2 r k)) (fun k => g (ix1 k))) (fun k => wg (ix2 k f)))
    (fun f => dotp (nrm (fun k => h (ix2 r k)) (fun k => g (ix1 k))) (fun k => wu (ix2 k f)))
    (fun f k => wg (ix2 k f)) (fun f k => wu (ix2 k f)) (fun f k => wd (ix2 f k))

open Cert.ReferenceIdeal.Read in
theorem n_apply (r : Fin 4096) (d : Fin 1024) : val_main_v41 (F := Ideal) ct h g wg wu wd (ix2 r d) = nRow ct h g wg wu wd r d := by
  unfold nRow dnrm'
  pointwise [val_main_v0, val_main_cst, val_main_v1, val_main_v2, val_main_cst_0, val_main_v3, val_main_v4, val_main_cst_1, val_main_v5, val_main_v6,
    val_main_cst_2, val_main_v7, val_main_v8, val_main_v9, val_main_v10, val_main_cst_3, val_main_v11, val_main_v12, val_main_v13, val_main_v14,
    val_main_v15, val_main_v16, val_main_v17, val_main_v18, val_main_call0_v0, val_main_call0_v1, val_main_call0_cst, val_main_call0_v2,
    val_main_call0_v3, val_main_call0_cst_0, val_main_call0_v4, val_main_v19_2, val_main_call0_cst_1, val_main_call0_v6, val_main_call0_v7,
    val_main_v19_1, val_main_v19_0, val_main_v20, val_main_v21, val_main_v22, val_main_cst_4, val_main_v23, val_main_v24, val_main_v25,
    val_main_v26, val_main_cst_5, val_main_v27, val_main_v28, val_main_v29, val_main_v30, val_main_v31, val_main_v32, val_main_v33,
    val_main_v34, val_main_v35, val_main_v36, val_main_call1_v0, val_main_call1_v1, val_main_call1_v2, val_main_v37, val_main_v38, val_main_v39,
    val_main_v40, val_main_v41, val_main_v42, val_main_cst_6, val_main_v43, val_main_v44, val_main_v45, val_main_v46, val_main_cst_7,
    val_main_v47, val_main_v48, val_main_cst_8, val_main_v49, val_main_v50, val_main_v51, val_main_v52, val_main_v53, val_main_v54,
    val_main_cst_9, val_main_v55, val_main_v56, val_main_cst_10, val_main_v57, val_main_v58, val_main_v59, val_main_v60, val_main_v61]
  simp only [dgate', dhid, sgm, dotp, nrm, rinv, sub_eq_add_neg, zero_add]

open Cert.ReferenceIdeal.Read in
theorem row_apply (r : Fin 4096) (d : Fin 1024) : val_main_v60 (F := Ideal) ct h g wg wu wd (ix2 r d)
    = drow' (fun k => ct (ix2 r k)) (fun k => h (ix2 r k)) (fun k => g (ix1 k)) (nRow ct h g wg wu wd r) d := by
  have e : drow' (fun k => ct (ix2 r k)) (fun k => h (ix2 r k)) (fun k => g (ix1 k)) (nRow ct h g wg wu wd r) d
     = drow' (fun k => ct (ix2 r k)) (fun k => h (ix2 r k)) (fun k => g (ix1 k)) (fun d => val_main_v41 (F := Ideal) ct h g wg wu wd (ix2 r d)) d := by
    simp only [n_apply]
  rw [e]
  unfold drow'
  unfold val_main_v60 val_main_v53 val_main_v59 val_main_v52 val_main_v58 val_main_v57 val_main_v56 val_main_v54 val_main_v50 val_main_v49 val_main_v48 val_main_v46
  generalize val_main_v41 (F := Ideal) ct h g wg wu wd = z
  pointwise [val_main_v2, val_main_v1, val_main_cst, val_main_cst_0, val_main_cst_1, val_main_cst_2, val_main_cst_3, val_main_cst_8, val_main_cst_9, val_main_cst_10, val_main_v0, val_main_v3, val_main_v4, val_main_v5, val_main_v6, val_main_v7, val_main_v8, val_main_v9,
    val_main_v10, val_main_v11, val_main_v12, val_main_v15, val_main_v45, val_main_v51, val_main_v55]
  simp only [rinv, Finset.univ_unique, Finset.sum_singleton]

open Cert.ReferenceIdeal.Read in
theorem gain_apply (a : Fin 1) (d : Fin 1024) : val_main_v61 (F := Ideal) ct h g wg wu wd (ix2 a d)
    = ∑ r, h (ix2 r d) * rinv (fun k => h (ix2 r k)) * nRow ct h g wg wu wd r d := by
  simp only [← n_apply]
  unfold val_main_v61 val_main_v47 val_main_v44 val_main_v43 val_main_v42
  generalize val_main_v41 (F := Ideal) ct h g wg wu wd = z
  pointwise [val_main_cst_6, val_main_cst_7, val_main_v14, val_main_v13, val_main_cst_0, val_main_cst_1, val_main_cst_2, val_main_v0, val_main_v3, val_main_v4, val_main_v5, val_main_v6, val_main_v7, val_main_v8, val_main_v9]
  simp only [rinv, Finset.univ_unique, Finset.sum_singleton]

end Cert.BackwardRef

end
-- ==== Proof.BackwardClaim.lean ====
/-
  The two cotangents of the feed-forward layer against the reference: the host lines before the region, the padding
  gone, and, on real arguments, the kernel's form of the gradient equal to the reference's.
-/
module

public import proofs.«01_k».proof.Defs
public import proofs.«01_k».proof.Proof.Backward
public import proofs.«01_k».proof.Proof.BackwardRef
public import Idealize.ShloMosaic.Lib.Quiescent

@[expose] public section

set_option maxRecDepth 16384

noncomputable section

open Idealize.ShloMosaic Idealize.ShloMosaic.TcCoe Idealize.SL.Sem

namespace Cert.Backward

open Cert.KernelIdeal Cert.KernelIdeal.Gen Cert.FfnMath

variable (m : (ℓ : Loc nD τ sig) → Buf (Elt Ideal) ℓ) (ρ : Dev nD → PrngReg)

/-! ## The host lines before the region -/

/-- The arguments. -/
abbrev argCt (c : Dev nD) : FVec Ideal S4096x1024 .f32 := m ((c : Thread nD τ).loc main_arg0)
abbrev argH (c : Dev nD) : FVec Ideal S4096x1024 .f32 := m ((c : Thread nD τ).loc main_arg1)
abbrev argGain (c : Dev nD) : FVec Ideal S1024 .f32 := m ((c : Thread nD τ).loc main_arg2)
abbrev argGate (c : Dev nD) : FVec Ideal S1024x2816 .f32 := m ((c : Thread nD τ).loc main_arg3)
abbrev argUp (c : Dev nD) : FVec Ideal S1024x2816 .f32 := m ((c : Thread nD τ).loc main_arg4)
abbrev argDown (c : Dev nD) : FVec Ideal S2816x1024 .f32 := m ((c : Thread nD τ).loc main_arg5)

/-- A weight cut in four shards of 704 rows, each padded by 64 rows of zeros. -/
def sharded (w : FVec Ideal S2816x1024 .f32) : FVec Ideal S4x768x1024 .bf16 :=
  truncf (F := Ideal) .bf16 (pad S4x768x1024 ![0, 0, 0] ![0, 64, 0] ![0, 0, 0]
    (shapeCast S4x704x1024 w shapeCasts_S2816x1024_S4x704x1024) (sitofp .f32 (constantI S_ 32 0#32))
    pads_S4x704x1024_S4x768x1024_000_0640_000 h_S_) bitsLt_bf16_f32

theorem sharded_apply (w : FVec Ideal S2816x1024 .f32) (s : Fin 4) (j : Fin 704) (k : Fin 1024) :
    sharded w (ix3 s ⟨j.val, by omega⟩ k) = w (ix2 (place s j) k) := by
  pointwise [sharded]
  refine congrArg w ?_
  refine congrArg (fun a => ix2 a k) (Fin.ext ?_)
  simp [place]; omega

theorem sharded_zero (w : FVec Ideal S2816x1024 .f32) (s : Fin 4) (j : Fin 768) (hj : 704 ≤ j.val) (k : Fin 1024) :
    sharded w (ix3 s j k) = (0 : EReal) := by
  pointwise [sharded]
  rw [dif_neg (by omega)]
  show ((((0#32 : BitVec 32).toInt : ℝ)) : EReal) = 0
  simp

/-- A product cut in four shards of 704 columns, each padded by 64 columns of zeros. -/
def hidden (x : FVec Ideal S4096x2816 .f32) : FVec Ideal S4x4096x768 .bf16 :=
  truncf (F := Ideal) .bf16 (pad S4x4096x768 ![0, 0, 0] ![0, 0, 64] ![0, 0, 0]
      (transpose S4x4096x704 [1, 0, 2] (shapeCast S4096x4x704 x shapeCasts_S4096x2816_S4096x4x704)
        transposes_S4096x4x704_S4x4096x704_1_0_2) (sitofp .f32 (constantI S_ 32 0#32)) pads_S4x4096x704_S4x4096x768_000_000_0640 h_S_) bitsLt_bf16_f32

theorem hidden_apply (x : FVec Ideal S4096x2816 .f32) (s : Fin 4) (r : Fin 4096) (j : Fin 704) :
    hidden x (ix3 s r ⟨j.val, by omega⟩) = x (ix2 r (place s j)) := by
  pointwise [hidden]
  refine congrArg x ?_
  refine congrArg (fun a => ix2 r a) (Fin.ext ?_)
  simp [place]; omega

/-- The normalised rows on the host. -/
def normed (h : FVec Ideal S4096x1024 .f32) (g : FVec Ideal S1024 .f32) : FVec Ideal S4096x1024 .f32 :=
  mulf (F := Ideal) (mulf (F := Ideal) h (broadcastInDim S4096x1024 ![0, 1] bcast_S4096x1_S4096x1024_0_1
      (Host.rsqrt (F := Ideal) (addf (F := Ideal) (Host.divf (F := Ideal) (broadcastInDim S4096x1 ![0] bcast_S4096_S4096x1_0
          (Host.reduceAdd (F := Ideal) (mulf (F := Ideal) h h) (constant S_ .f32 0x00000000#32) reducesTo_S4096x1024_S4096_d1 h_S_))
        (broadcastInDim S4096x1 ![] bcast_S_S4096x1 (constant S_ .f32 0x44800000#32)))
        (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 g))

/-- The product with a weight. -/
def prod (n : FVec Ideal S4096x1024 .f32) (w : FVec Ideal S1024x2816 .f32) : FVec Ideal S4096x2816 .f32 :=
  Host.dotGeneral (F := Ideal) dot_S4096x1024_S1024x2816_S4096x2816_1_0_0_1_n_n none n w

theorem prod_apply (h : FVec Ideal S4096x1024 .f32) (g : FVec Ideal S1024 .f32) (w : FVec Ideal S1024x2816 .f32) (r : Fin 4096) (f : Fin 2816) :
    prod (normed h g) w (ix2 r f) = dotp (nrm (fun k => h (ix2 r k)) (fun k => g (ix1 k))) (fun k => w (ix2 k f)) := by
  pointwise [prod, normed, dotp, nrm, rinv]

theorem prodA_eq (c : Dev nD) : prodA m c = hidden (prod (normed (argH m c) (argGain m c)) (argGate m c)) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.devRef .tc main_v18) = _
  unfold hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem prodB_eq (c : Dev nD) : prodB m c = hidden (prod (normed (argH m c) (argGain m c)) (argUp m c)) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.devRef .tc main_v22) = _
  unfold hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem gain_eq (c : Dev nD) : gain m c = broadcastInDim S1x1024 ![1] bcast_S1024_S1x1024_1 (argGain m c) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.devRef .tc main_v23) = _
  unfold hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results

theorem gate_eq (c : Dev nD) : gate m c = sharded (transpose S2816x1024 [1, 0] (argGate m c) transposes_S1024x2816_S2816x1024_1_0) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.devRef .tc main_v27) = _
  unfold hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem up_eq (c : Dev nD) : up m c = sharded (transpose S2816x1024 [1, 0] (argUp m c) transposes_S1024x2816_S2816x1024_1_0) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.devRef .tc main_v31) = _
  unfold hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem down_eq (c : Dev nD) : down m c = sharded (argDown m c) := by
  show StableHlo.after (List.flatten [hostOps0, hostOps0_1, hostOps0_2, hostOps0_3, hostOps0_4, hostOps0_5, hostOps0_6, hostOps0_7, hostOps0_8, hostOps0_9, hostOps0_10])
    (fun b => m (c, b)) (Proc.devRef .tc main_v34) = _
  unfold hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results
  rfl

theorem gain_apply (c : Dev nD) (k : Fin 1024) : gain m c (ix2 0 k) = argGain m c (ix1 k) := by
  rw [gain_eq]
  pointwise

/-! ## Without the padding -/

/-- The cotangent of the normalised rows, over the hidden units in one row. -/
def nSpec (ct h : FVec Ideal S4096x1024 .f32) (g : FVec Ideal S1024 .f32) (wg wu : FVec Ideal S1024x2816 .f32) (wd : FVec Ideal S2816x1024 .f32) (r : Fin 4096) :
    Fin 1024 → EReal :=
  dnrm (ι := Fin 2816) (fun k => ct (ix2 r k)) (fun f => dotp (nrm (fun k => h (ix2 r k)) (fun k => g (ix1 k))) (fun k => wg (ix2 k f)))
    (fun f => dotp (nrm (fun k => h (ix2 r k)) (fun k => g (ix1 k))) (fun k => wu (ix2 k f)))
    (fun f k => wg (ix2 k f)) (fun f k => wu (ix2 k f)) (fun f k => wd (ix2 f k))

theorem nAll_eq (c : Dev nD) (r : Fin 4096) :
    nAll m c r = nSpec (argCt m c) (argH m c) (argGain m c) (argGate m c) (argUp m c) (argDown m c) r := by
  funext d
  unfold nAll nSpec dnrm
  have hc : cot m c = argCt m c := V_main_arg0 m c
  rw [hc, prodA_eq, prodB_eq, gate_eq, up_eq, down_eq, Fintype.sum_prod_type]
  refine sum_shards _ _ (fun s j => ?_) (fun s j hj => ?_)
  · simp only [sharded_apply, hidden_apply, prod_apply]
    pointwise
  · dsimp only
    rw [sharded_zero _ _ _ hj, sharded_zero _ _ _ hj, mul_zero, mul_zero, add_zero]

/-- The rows' cotangents and the gain's, of the arguments. -/
def specRow (ct h : FVec Ideal S4096x1024 .f32) (g : FVec Ideal S1024 .f32) (wg wu : FVec Ideal S1024x2816 .f32) (wd : FVec Ideal S2816x1024 .f32) :
    FVec Ideal S4096x1024 .f32 := fun i =>
  drow (fun k => ct (ix2 (i 0) k)) (fun k => h (ix2 (i 0) k)) (fun k => g (ix1 k)) (nSpec ct h g wg wu wd (i 0)) (i 1)

def specGain (ct h : FVec Ideal S4096x1024 .f32) (g : FVec Ideal S1024 .f32) (wg wu : FVec Ideal S1024x2816 .f32) (wd : FVec Ideal S2816x1024 .f32) :
    FVec Ideal S1x1024 .f32 := fun i =>
  ∑ r : Fin 4096, dgain (fun k => h (ix2 r k)) (nSpec ct h g wg wu wd r) (i 1)

theorem resRow_eq (c : Dev nD) : resRow m c = specRow (argCt m c) (argH m c) (argGain m c) (argGate m c) (argUp m c) (argDown m c) := by
  have hc : cot m c = argCt m c := V_main_arg0 m c
  have hr : rows m c = argH m c := V_main_arg1 m c
  have hg : (fun k : Fin 1024 => gain m c (ix2 0 k)) = fun k => argGain m c (ix1 k) := funext fun k => gain_apply m c k
  funext i
  have hn := nAll_eq m c (i 0)
  show drow (fun k => cot m c (ix2 (i 0) k)) (fun k => rows m c (ix2 (i 0) k)) (fun k : Fin 1024 => gain m c (ix2 0 k)) (nAll m c (i 0)) (i 1) = _
  rw [hg, hc, hr, hn]
  rfl

theorem resGain_eq (c : Dev nD) : resGain m c = specGain (argCt m c) (argH m c) (argGain m c) (argGate m c) (argUp m c) (argDown m c) := by
  have hr : rows m c = argH m c := V_main_arg1 m c
  funext i
  unfold resGain specGain
  simp only [nAll_eq, hr]

/-! ## The claim -/

/-- The kernel's run, read: the two results at the cotangents of the arguments, the arguments unchanged. -/
theorem run : θ_run defs (onTc (τ := τ) (main (F := Ideal))) ⟨m, fun _ => 0, ρ⟩ fun r => ∀ c : Dev nD,
      r.2.mem ((c : Thread nD τ).loc main_v35_0) = specRow (argCt m c) (argH m c) (argGain m c) (argGate m c) (argUp m c) (argDown m c)
      ∧ r.2.mem ((c : Thread nD τ).loc main_v35_1) = specGain (argCt m c) (argH m c) (argGain m c) (argGate m c) (argUp m c) (argDown m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1.trans (arrRow m c)).trans (resRow_eq m c), ((h c).2.1.trans (arrGain m c)).trans (resGain_eq m c),
      (h c).2.2.2.2.2.2.2⟩)
    (Cert.KernelIdeal.Value.run_blocks m ρ)

/-- An extended real whose absolute value is below infinity is a real number. -/
theorem isReal_of_cmp {x : EReal} (h : Ideal.cmp .olt (max x (-x)) (Ideal.ofBits .f32 0x7F800000#32) = 1#1) : IsReal x := by
  rw [c_inf] at h
  have hlt : max x (-x) < ⊤ := by
    by_contra hn
    simp [Ideal.cmp, hn] at h
  induction x with
  | bot => simp at hlt
  | top => simp at hlt
  | coe r => exact ⟨r, rfl⟩

/-- Kernel and reference compute the same two cotangents over the extended reals, the arguments being real numbers. -/
theorem algebraic [Cert.Pre_finite.Facts] : Cert.algebraic_KernelIdeal_ReferenceIdeal_pre_finite := by
  intro m g m' g' hpre hargs
  refine ⟨_, _, run m g, (θ_run Cert.ReferenceIdeal.defs _ _).mono (fun r h c => ⟨?_, ?_, (h c).2.2⟩)
    (Cert.ReferenceIdeal.Value.run (F := Ideal) m' g')⟩
  all_goals
    obtain ⟨p0, p1, p2, p3, p4, p5⟩ := hpre c
    have f0 : ∀ i, IsReal (argCt m c i) := fun i => isReal_of_cmp (congrFun p0 i)
    have f1 : ∀ i, IsReal (argH m c i) := fun i => isReal_of_cmp (congrFun p1 i)
    have f2 : ∀ i, IsReal (argGain m c i) := fun i => isReal_of_cmp (congrFun p2 i)
    have f3 : ∀ i, IsReal (argGate m c i) := fun i => isReal_of_cmp (congrFun p3 i)
    have f4 : ∀ i, IsReal (argUp m c i) := fun i => isReal_of_cmp (congrFun p4 i)
    have f5 : ∀ i, IsReal (argDown m c i) := fun i => isReal_of_cmp (congrFun p5 i)
    have fn : ∀ (r : Fin 4096) k, IsReal (nrm (fun k => argH m c (ix2 r k)) (fun k => argGain m c (ix1 k)) k) :=
      fun r => isReal_nrm (fun k => f1 _) (fun k => f2 _)
    have hn : ∀ r, nSpec (argCt m c) (argH m c) (argGain m c) (argGate m c) (argUp m c) (argDown m c) r
        = Cert.BackwardRef.nRow (argCt m c) (argH m c) (argGain m c) (argGate m c) (argUp m c) (argDown m c) r := fun r =>
      funext fun d => dnrm_eq (fun k => f0 _) (fun f => isReal_dotp (fn r) (fun k => f3 _)) (fun f => isReal_dotp (fn r) (fun k => f4 _)) (fun f k => f5 _) d
  · refine ((h c).1).trans ((Cert.ReferenceIdeal.Read.val_main_v60_eq m' c).trans ?_)
    rw [(hargs c).1, (hargs c).2.1, (hargs c).2.2.1, (hargs c).2.2.2.1, (hargs c).2.2.2.2.1, (hargs c).2.2.2.2.2]
    funext (i : S4096x1024.Idx)
    obtain ⟨r, d, rfl⟩ : ∃ (r : Fin 4096) (d : Fin 1024), i = ix2 r d := ⟨i 0, i 1, eq_ix2 i⟩
    refine (Cert.BackwardRef.row_apply (argCt m c) (argH m c) (argGain m c) (argGate m c) (argUp m c) (argDown m c) r d).trans ?_
    show _ = drow (fun k => argCt m c (ix2 r k)) (fun k => argH m c (ix2 r k)) (fun k => argGain m c (ix1 k))
      (nSpec (argCt m c) (argH m c) (argGain m c) (argGate m c) (argUp m c) (argDown m c) r) d
    rw [hn]
    exact (drow_eq (fun k => f0 _) (fun k => f1 _) (fun k => f2 _)
      (isReal_dnrm' (fun k => f0 _) (fun f => isReal_dotp (fn r) (fun k => f3 _)) (fun f => isReal_dotp (fn r) (fun k => f4 _))
        (fun f k => f3 _) (fun f k => f4 _) (fun f k => f5 _)) d).symm
  · refine ((h c).2.1).trans ((Cert.ReferenceIdeal.Read.val_main_v61_eq m' c).trans ?_)
    rw [(hargs c).1, (hargs c).2.1, (hargs c).2.2.1, (hargs c).2.2.2.1, (hargs c).2.2.2.2.1, (hargs c).2.2.2.2.2]
    funext (i : S1x1024.Idx)
    obtain ⟨a, d, rfl⟩ : ∃ (a : Fin 1) (d : Fin 1024), i = ix2 a d := ⟨i 0, i 1, eq_ix2 i⟩
    refine (Cert.BackwardRef.gain_apply (argCt m c) (argH m c) (argGain m c) (argGate m c) (argUp m c) (argDown m c) a d).trans ?_
    show _ = ∑ r : Fin 4096, dgain (fun k => argH m c (ix2 r k)) (nSpec (argCt m c) (argH m c) (argGain m c) (argGate m c) (argUp m c) (argDown m c) r) d
    refine Finset.sum_congr rfl fun r _ => ?_
    rw [hn, dgain_eq]

end Cert.Backward

end
-- ==== Proof.WeightGrad.lean ====
/-
  The weight gradient of the gate product: four hidden shards, each padded from 704 to 768 columns, one product per
  shard contracting the 4096 rows, the padding cut off and the shards laid side by side again. Here the region's
  output array is read off the generated run, the host lines around it are evaluated, and the result is met with the
  reference's one product index by index.
-/
module

public import proofs.«01_k».proof.Defs
public import proofs.«01_k».proof.Proof.Gen.Kernel2Ideal.Frame
public import proofs.«01_k».proof.Proof.Gen.Reference2Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WeightGrad

open Cert.Kernel2Ideal Cert.Kernel2Ideal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- One shard's product at an index: the contraction over the 4096 rows. -/
theorem pay_apply (x : Vec Ideal S1x4096x768 .bf16) (y : Vec Ideal S4096x1024 .bf16) (a : Fin 1) (f : Fin 768) (d : Fin 1024) :
    k0_pay1 x y (ix3 a f d) = ∑ k : Fin 4096, (x (ix3 0 k f) : EReal) * y (ix2 k d) := by
  pointwise [k0_pay1]

/-- The padded hidden shards and the rows of the input, as the region finds them. -/
abbrev hid (c : Dev nD) : Vec Ideal S4x4096x768 .bf16 := V m c main_v3
abbrev inp (c : Dev nD) : Vec Ideal S4096x1024 .bf16 := V m c main_v4

/-- All four shards' products. -/
def grads (c : Dev nD) : Vec Ideal S4x768x1024 .f32 := fun i =>
  ∑ k : Fin 4096, (hid m c (ix3 (i 0) k (i 1)) : EReal) * inp m c (ix2 k (i 2))

theorem index_facts : ∀ t : Fin cfg0.N,
    (win0_0.index t 0 = t.val ∧ win0_0.index t 1 = 0 ∧ win0_0.index t 2 = 0)
    ∧ (win0_1.index t 0 = 0 ∧ win0_1.index t 1 = 0)
    ∧ (win0_2.index t 0 = t.val ∧ win0_2.index t 1 = 0 ∧ win0_2.index t 2 = 0) :=
  (by decide +kernel : ∀ t : Fin grid0.N, _)

theorem lt4 (t : Fin cfg0.N) : t.val < 4 := lt_of_lt_of_eq t.isLt N_0

/-- Point `t` reads shard `t`, -/
theorem iblk0 (c : Dev nD) (t : Fin cfg0.N) (a : Fin 1) (k : Fin 4096) (f : Fin 768) :
    (iblk m c 0 t : Vec Ideal S1x4096x768 .bf16) (ix3 a k f) = hid m c (ix3 ⟨t.val, lt4 t⟩ k f) := by
  obtain ⟨⟨h0, h1, h2⟩, -, -⟩ := index_facts t
  show hid m c _ = _
  refine congrArg (hid m c) (funext fun x => Fin.ext ?_)
  have ha : a.val = 0 := by omega
  match x with
  | ⟨0, _⟩ => show win0_0.index t 0 * 1 + 1 * a.val = t.val; rw [h0, ha]; omega
  | ⟨1, _⟩ => show win0_0.index t 1 * 4096 + 1 * k.val = k.val; rw [h1]; omega
  | ⟨2, _⟩ => show win0_0.index t 2 * 768 + 1 * f.val = f.val; rw [h2]; omega

/-- and all rows of the input. -/
theorem iblk1 (c : Dev nD) (t : Fin cfg0.N) (k : Fin 4096) (d : Fin 1024) :
    (iblk m c 1 t : Vec Ideal S4096x1024 .bf16) (ix2 k d) = inp m c (ix2 k d) := by
  obtain ⟨-, ⟨h0, h1⟩, -⟩ := index_facts t
  show inp m c _ = _
  refine congrArg (inp m c) (funext fun x => Fin.ext ?_)
  match x with
  | ⟨0, _⟩ => show win0_1.index t 0 * 4096 + 1 * k.val = k.val; rw [h0]; omega
  | ⟨1, _⟩ => show win0_1.index t 1 * 1024 + 1 * d.val = d.val; rw [h1]; omega

/-- What point `t` writes back is shard `t` of the products. -/
theorem flushed_eq (c : Dev nD) (t : Fin cfg0.N) :
    (dats m 0 c).flushed 2 t = (win0_2.blk t).view.read (Elt Ideal) (grads m c) := by
  show (cfg0.win 2).cut (grid0.coords t) ((dats m 0 c).after 2 t) = _
  rw [after0_2]
  unfold out0_2
  rw [View.canon_unit_zero hz3, View.ld_unit_zero hz3, View.ld_unit_zero hz2]
  obtain ⟨-, -, h0, h1, h2⟩ := index_facts t
  refine funext fun (j : S1x768x1024.Idx) => ?_
  obtain ⟨a, f, d, rfl⟩ : ∃ (a : Fin 1) (f : Fin 768) (d : Fin 1024), j = ix3 a f d := ⟨j 0, j 1, j 2, eq_ix3 j⟩
  refine (pay_apply (iblk m c 0 t) (iblk m c 1 t) a f d).trans ?_
  show _ = grads m c ((win0_2.rect t).emb (ix3 a f d))
  have e : (win0_2.rect t).emb (ix3 a f d) = (ix3 ⟨t.val, lt4 t⟩ f d : S4x768x1024.Idx) := by
    have ha : a.val = 0 := by omega
    refine funext fun x => Fin.ext ?_
    match x with
    | ⟨0, _⟩ => show win0_2.index t 0 * 1 + 1 * a.val = t.val; rw [h0, ha]; omega
    | ⟨1, _⟩ => show win0_2.index t 1 * 768 + 1 * f.val = f.val; rw [h1]; omega
    | ⟨2, _⟩ => show win0_2.index t 2 * 1024 + 1 * d.val = d.val; rw [h2]; omega
  rw [e]
  unfold grads
  refine Finset.sum_congr rfl fun k _ => ?_
  rw [iblk0, iblk1]
  rfl

/-- The four blocks tile the output. -/
theorem mem_blk (t : Fin cfg0.N) (i : S4x768x1024.Idx) :
    i ∈ ((cfg0.win 2).blk t).view.set ↔ t.val = (i 0 : Nat) := by
  show i ∈ ((View.whole main_v5).slice (win0_2.rect t)).set ↔ _
  rw [View.set_slice_whole, Rect.mem_set_unit]
  obtain ⟨-, -, h0, h1, h2⟩ := index_facts t
  have l1 : (i 1 : Nat) < 768 := (i 1).isLt
  have l2 : (i 2 : Nat) < 1024 := (i 2).isLt
  refine ⟨fun h => ?_, fun h a => ?_⟩
  · have h' : win0_2.index t 0 * 1 ≤ (i 0 : Nat) ∧ (i 0 : Nat) < win0_2.index t 0 * 1 + 1 := h 0
    rw [h0] at h'; omega
  · match a with
    | ⟨0, _⟩ => show win0_2.index t 0 * 1 ≤ (i 0 : Nat) ∧ (i 0 : Nat) < win0_2.index t 0 * 1 + 1
                rw [h0]; omega
    | ⟨1, _⟩ => show win0_2.index t 1 * 768 ≤ (i 1 : Nat) ∧ (i 1 : Nat) < win0_2.index t 1 * 768 + 768
                rw [h1]; omega
    | ⟨2, _⟩ => show win0_2.index t 2 * 1024 ≤ (i 2 : Nat) ∧ (i 2 : Nat) < win0_2.index t 2 * 1024 + 1024
                rw [h2]; omega

theorem cover (i : S4x768x1024.Idx) :
    ∃ t : Fin cfg0.N, (cfg0.win 2).flush t = true ∧ i ∈ ((cfg0.win 2).blk t).view.set := by
  have h0 : (i 0 : Nat) < 4 := (i 0).isLt
  have hN : cfg0.N = 4 := N_0
  refine ⟨⟨(i 0 : Nat), by omega⟩, flush0_2 _, ?_⟩
  rw [mem_blk]

/-- So the output array ends holding the four products. -/
theorem arr (c : Dev nD) : (dats m 0 c).arrAt 2 cfg0.N = grads m c :=
  (dats m 0 c).arrAt_eq_of_cover 2 (grads m c) (fun t _ => flushed_eq m c t) cover

/-! ## The host lines -/

/-- The two arguments. -/
abbrev argX (c : Dev nD) : FVec Ideal S4096x1024 .f32 := m ((c : Thread nD τ).loc main_arg0)
abbrev argH (c : Dev nD) : FVec Ideal S4096x2816 .f32 := m ((c : Thread nD τ).loc main_arg1)

/-- The hidden columns cut in four shards and padded. -/
theorem hid_eq (c : Dev nD) : hid m c = truncf (F := Ideal) .bf16 (pad S4x4096x768 ![0, 0, 0] ![0, 0, 64] ![0, 0, 0]
      (transpose S4x4096x704 [1, 0, 2] (shapeCast S4096x4x704 (argH m c) shapeCasts_S4096x2816_S4096x4x704)
        transposes_S4096x4x704_S4x4096x704_1_0_2) (sitofp .f32 (constantI S_ 32 0#32)) pads_S4x4096x704_S4x4096x768_000_000_0640 h_S_) bitsLt_bf16_f32 := by
  show StableHlo.after (List.flatten [hostOps0, hostOps0_1, hostOps0_2]) (fun b => m (c, b)) (Proc.devRef .tc main_v3) = _
  unfold hostOps0 hostOps0_1 hostOps0_2
  simp only [List.flatten_cons, List.flatten_nil, List.append_nil, List.cons_append, List.nil_append]
  after_results
  rfl

theorem inp_eq (c : Dev nD) : inp m c = truncf (F := Ideal) .bf16 (argX m c) bitsLt_bf16_f32 := by
  show StableHlo.after (List.flatten [hostOps0, hostOps0_1, hostOps0_2]) (fun b => m (c, b)) (Proc.devRef .tc main_v4) = _
  unfold hostOps0 hostOps0_1 hostOps0_2
  simp only [List.flatten_cons, List.flatten_nil, List.append_nil, List.cons_append, List.nil_append]
  after_results

/-- The result after the lines behind the region: the padding cut off, the shards joined, the axes exchanged. -/
theorem tail_eq (c : Dev nD) : Pipeline.afterTail₀ cfgs (dats m) 0 (V0 m) [hostOps1] c main_v8
    = transpose S1024x2816 [1, 0] (shapeCast S2816x1024 (extractStridedSlice S4x704x1024 ![0, 0, 0] (grads m c) slices_S4x768x1024_S4x704x1024_0_0_0)
        shapeCasts_S4x704x1024_S2816x1024) transposes_S2816x1024_S1024x2816_1_0 := by
  have h : Pipeline.withArrays (cfgs 0).spec c (V0 m c) (fun w => (dats m 0 c).arrAt w (cfgs 0).N) (Proc.devRef .tc main_v5) = grads m c :=
    (Pipeline.withArrays_arr spec0 launch0.win.arr_inj c (V0 m c) (fun w => (dats m 0 c).arrAt w cfg0.N) 2).trans (arr m c)
  unfold Pipeline.afterTail₀
  generalize Pipeline.withArrays (cfgs 0).spec c (V0 m c) (fun w => (dats m 0 c).arrAt w (cfgs 0).N) = W at h ⊢
  unfold hostOps1
  simp only [List.flatten_cons, List.flatten_nil, List.append_nil]
  after_results
  rw [h]
  rfl

/-- The same at an index: one contraction over the rows. -/
theorem tail_apply (c : Dev nD) (d : Fin 1024) (f : Fin 2816) :
    (Pipeline.afterTail₀ cfgs (dats m) 0 (V0 m) [hostOps1] c main_v8 : FVec Ideal S1024x2816 .f32) (ix2 d f)
      = ∑ k : Fin 4096, argH m c (ix2 k f) * argX m c (ix2 k d) := by
  rw [tail_eq]
  pointwise [grads]
  rw [hid_eq, inp_eq]
  pointwise
  have hf := f.isLt
  have hb : f.val / 704 < 4 ∧ f.val % 704 < 704 := ⟨by omega, by omega⟩
  exact Finset.sum_congr (M := EReal) rfl fun k _ => by rw [dif_pos hb]

/-- The kernel's run, read: the result at the contraction, the arguments unchanged. -/
theorem run : θ_run defs (onTc (τ := τ) (main (F := Ideal))) ⟨m, fun _ => 0, ρ⟩ fun r => ∀ c : Dev nD,
      r.2.mem ((c : Thread nD τ).loc main_v8) = (fun i => ∑ k : Fin 4096, argH m c (ix2 k (i 1)) * argX m c (ix2 k (i 0)) : FVec Ideal S1024x2816 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v8 (Pipeline.mem_restRefs_of main_v8 (by decide) (by decide))).trans
        (funext fun (i : S1024x2816.Idx) => by
          obtain ⟨d, f, rfl⟩ : ∃ (d : Fin 1024) (f : Fin 2816), i = ix2 d f := ⟨i 0, i 1, eq_ix2 i⟩
          exact tail_apply m c d f),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The reference's result at an index: the same contraction. -/
theorem ref_eq (hT : S2816x1024.Transposes [1, 0] S1024x2816) (h : FVec Ideal S4096x2816 .f32) (x : FVec Ideal S4096x1024 .f32) :
    transpose Cert.Reference2Ideal.S1024x2816 [1, 0] (Host.dotGeneral Cert.Reference2Ideal.dot_S4096x2816_S4096x1024_S2816x1024_0_0_1_1_n_n none h x) hT
      = (fun i => ∑ k : Fin 4096, h (ix2 k (i 1)) * x (ix2 k (i 0)) : FVec Ideal S1024x2816 .f32) := by
  funext i
  obtain ⟨d, f, rfl⟩ : ∃ (d : Fin 1024) (f : Fin 2816), i = ix2 d f := ⟨i 0, i 1, eq_ix2 i⟩
  pointwise

/-- Kernel and reference compute the same function over the extended reals. -/
theorem algebraic : Cert.algebraic_Kernel2Ideal_Reference2Ideal := by
  intro m g m' g' _ hargs
  refine ⟨_, run m g, (θ_run Cert.Reference2Ideal.defs _ _).mono (fun r h c => ⟨?_, (h c).2⟩)
    (Cert.Reference2Ideal.Value.run (F := Ideal) m' g')⟩
  refine ((h c).1).trans ?_
  rw [(hargs c).1, (hargs c).2]
  exact ref_eq _ _ _

end Cert.WeightGrad

end
-- ==== Proof.Forward.lean ====
/-
  The forward pass of the gated feed-forward layer: eight blocks of 512 rows, the hidden units in four padded shards
  whose contributions are added one after another. What one block computes, what the output array holds, what the
  reference computes, and that the two agree.
-/
module

public import proofs.«01_k».proof.Defs
public import proofs.«01_k».proof.Proof.FfnMath
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Forward

open Cert.Kernel3Ideal Cert.Kernel3Ideal.Gen Cert.FfnMath

variable (m : (ℓ : Loc nD τ sig) → Buf (Elt Ideal) ℓ) (ρ : Dev nD → PrngReg)

theorem hz2 : (![0, 0] : Fin 2 → Nat) = fun _ => 0 := funext fun a => by fin_cases a <;> rfl

/-- The normalised rows of a block. -/
theorem norm_apply (x : Vec Ideal S512x1024 .f32) (g : Vec Ideal S1x1024 .f32) (r : Fin 512) (k : Fin 1024) :
    k0_pay1 x g (ix2 r k) = nrm (fun k => x (ix2 r k)) (fun k => g (ix2 0 k)) k := by
  pointwise [k0_pay1]
  rfl

/-- What the body leaves in the output's buffer, at an index: the layer's row, the hidden units summed shard by shard. -/
theorem out_apply (x : Vec Ideal S512x1024 .f32) (g : Vec Ideal S1x1024 .f32) (wg wu wd : Vec Ideal S4x768x1024 .bf16)
    (r : Fin 512) (d : Fin 1024) :
    out0_5 x g wg wu wd (ix2 r d) = layer (ι := Fin 4 × Fin 768) (fun k => x (ix2 r k)) (fun k => g (ix2 0 k))
      (fun p k => wg (ix3 p.1 p.2 k)) (fun p k => wu (ix3 p.1 p.2 k)) (fun p k => wd (ix3 p.1 p.2 k)) d := by
  have e0 : View.ld x r0_0 = x := View.ld_unit_zero hz2 _ _
  have e1 : View.ld g r0_1 = g := View.ld_unit_zero hz2 _ _
  unfold out0_5 k0_pay24
  rw [View.canon_unit_zero hz2, e0, e1]
  unfold layer
  rw [Fintype.sum_prod_type, Fin.sum_univ_four]
  pointwise [k0_pay23, k0_pay18, k0_pay19, k0_pay20, k0_pay14, k0_pay15, k0_pay13, k0_pay9, k0_pay10, k0_pay8, k0_pay7, k0_pay4, k0_pay3, k0_pay2]
  simp only [norm_apply, zero_add, act, dotp]

/-! ## The output array -/

/-- The arrays the region works on: the rows, the gain, and the three padded weights. -/
abbrev rows (c : Dev nD) : FVec Ideal S4096x1024 .f32 := V m c main_arg0
abbrev gain (c : Dev nD) : FVec Ideal S1x1024 .f32 := V m c main_v0
abbrev gate (c : Dev nD) : FVec Ideal S4x768x1024 .bf16 := V m c main_v4
abbrev up (c : Dev nD) : FVec Ideal S4x768x1024 .bf16 := V m c main_v8
abbrev down (c : Dev nD) : FVec Ideal S4x768x1024 .bf16 := V m c main_v11

/-- What the output array is shown to hold. -/
def result (c : Dev nD) : FVec Ideal S4096x1024 .f32 := fun i =>
  layer (ι := Fin 4 × Fin 768) (fun k => rows m c (ix2 (i 0) k)) (fun k => gain m c (ix2 0 k))
    (fun p k => gate m c (ix3 p.1 p.2 k)) (fun p k => up m c (ix3 p.1 p.2 k)) (fun p k => down m c (ix3 p.1 p.2 k)) (i 1)

theorem index_facts : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = t.val ∧ win0_5.index t 1 = 0) :=
  (by decide +kernel : ∀ t : Fin grid0.N, _)

theorem lt8 (t : Fin cfg0.N) : t.val < 8 := lt_of_lt_of_eq t.isLt N_0

/-- Row `r` of block `t` among all rows. -/
def row (t : Fin cfg0.N) (r : Fin 512) : Fin 4096 := ⟨t.val * 512 + r.val, by have := lt8 t; omega⟩

/-- Point `t` reads the rows of block `t`, -/
theorem iblk0 (c : Dev nD) (t : Fin cfg0.N) (r : Fin 512) (k : Fin 1024) :
    (iblk m c 0 t : Vec Ideal S512x1024 .f32) (ix2 r k) = rows m c (ix2 (row t r) k) := by
  obtain ⟨⟨h0, h1⟩, -⟩ := index_facts t
  show rows m c _ = _
  refine congrArg (rows m c) (funext fun x => Fin.ext ?_)
  match x with
  | ⟨0, _⟩ => show win0_0.index t 0 * 512 + 1 * r.val = t.val * 512 + r.val; rw [h0]; omega
  | ⟨1, _⟩ => show win0_0.index t 1 * 1024 + 1 * k.val = k.val; rw [h1]; omega

/-- and the gain and the weights whole. -/
theorem iblk1 (c : Dev nD) (t : Fin cfg0.N) : (iblk m c 1 t : Vec Ideal S1x1024 .f32) = gain m c := by
  obtain ⟨-, ⟨h0, h1⟩, -⟩ := index_facts t
  funext (j : S1x1024.Idx)
  show gain m c _ = _
  refine congrArg (gain m c) (funext fun x => Fin.ext ?_)
  match x with
  | ⟨0, _⟩ => show win0_1.index t 0 * 1 + 1 * (j 0).val = (j 0).val; rw [h0]; omega
  | ⟨1, _⟩ => show win0_1.index t 1 * 1024 + 1 * (j 1).val = (j 1).val; rw [h1]; omega

theorem iblk2 (c : Dev nD) (t : Fin cfg0.N) : (iblk m c 2 t : Vec Ideal S4x768x1024 .bf16) = gate m c := by
  obtain ⟨-, -, ⟨h0, h1, h2⟩, -⟩ := index_facts t
  funext (j : S4x768x1024.Idx)
  show gate m c _ = _
  refine congrArg (gate m c) (funext fun x => Fin.ext ?_)
  match x with
  | ⟨0, _⟩ => show win0_2.index t 0 * 4 + 1 * (j 0).val = (j 0).val; rw [h0]; omega
  | ⟨1, _⟩ => show win0_2.index t 1 * 768 + 1 * (j 1).val = (j 1).val; rw [h1]; omega
  | ⟨2, _⟩ => show win0_2.index t 2 * 1024 + 1 * (j 2).val = (j 2).val; rw [h2]; omega

theorem iblk3 (c : Dev nD) (t : Fin cfg0.N) : (iblk m c 3 t : Vec Ideal S4x768x1024 .bf16) = up m c := by
  obtain ⟨-, -, -, ⟨h0, h1, h2⟩, -⟩ := index_facts t
  funext (j : S4x768x1024.Idx)
  show up m c _ = _
  refine congrArg (up m c) (funext fun x => Fin.ext ?_)
  match x with
  | ⟨0, _⟩ => show win0_3.index t 0 * 4 + 1 * (j 0).val = (j 0).val; rw [h0]; omega
  | ⟨1, _⟩ => show win0_3.index t 1 * 768 + 1 * (j 1).val = (j 1).val; rw [h1]; omega
  | ⟨2, _⟩ => show win0_3.index t 2 * 1024 + 1 * (j 2).val = (j 2).val; rw [h2]; omega

theorem iblk4 (c : Dev nD) (t : Fin cfg0.N) : (iblk m c 4 t : Vec Ideal S4x768x1024 .bf16) = down m c := by
  obtain ⟨-, -, -, -, ⟨h0, h1, h2⟩, -⟩ := index_facts t
  funext (j : S4x768x1024.Idx)
  show down m c _ = _
  refine congrArg (down m c) (funext fun x => Fin.ext ?_)
  match x with
  | ⟨0, _⟩ => show win0_4.index t 0 * 4 + 1 * (j 0).val = (j 0).val; rw [h0]; omega
  | ⟨1, _⟩ => show win0_4.index t 1 * 768 + 1 * (j 1).val = (j 1).val; rw [h1]; omega
  | ⟨2, _⟩ => show win0_4.index t 2 * 1024 + 1 * (j 2).val = (j 2).val; rw [h2]; omega

/-- What point `t` writes back is block `t` of the layer's rows. -/
theorem flushed_eq (c : Dev nD) (t : Fin cfg0.N) :
    (dats m 0 c).flushed 5 t = (win0_5.blk t).view.read (Elt Ideal) (result m c) := by
  show (cfg0.win 5).cut (grid0.coords t) ((dats m 0 c).after 5 t) = _
  rw [after0_5]
  obtain ⟨-, -, -, -, -, h0, h1⟩ := index_facts t
  refine funext fun (j : S512x1024.Idx) => ?_
  obtain ⟨r, d, rfl⟩ : ∃ (r : Fin 512) (d : Fin 1024), j = ix2 r d := ⟨j 0, j 1, eq_ix2 j⟩
  refine (out_apply (iblk m c 0 t) (iblk m c 1 t) (iblk m c 2 t) (iblk m c 3 t) (iblk m c 4 t) r d).trans ?_
  rw [iblk1, iblk2, iblk3, iblk4]
  simp only [iblk0]
  show _ = result m c ((win0_5.rect t).emb (ix2 r d))
  have e : (win0_5.rect t).emb (ix2 r d) = (ix2 (row t r) d : S4096x1024.Idx) := by
    refine funext fun x => Fin.ext ?_
    match x with
    | ⟨0, _⟩ => show win0_5.index t 0 * 512 + 1 * r.val = t.val * 512 + r.val; rw [h0]; omega
    | ⟨1, _⟩ => show win0_5.index t 1 * 1024 + 1 * d.val = d.val; rw [h1]; omega
  rw [e]
  rfl

/-- The eight blocks tile the output. -/
theorem mem_blk (t : Fin cfg0.N) (i : S4096x1024.Idx) :
    i ∈ ((cfg0.win 5).blk t).view.set ↔ t.val * 512 ≤ (i 0 : Nat) ∧ (i 0 : Nat) < t.val * 512 + 512 := by
  show i ∈ ((View.whole main_v12_0).slice (win0_5.rect t)).set ↔ _
  rw [View.set_slice_whole, Rect.mem_set_unit]
  obtain ⟨-, -, -, -, -, h0, h1⟩ := index_facts t
  have l1 : (i 1 : Nat) < 1024 := (i 1).isLt
  refine ⟨fun h => ?_, fun h a => ?_⟩
  · have h' : win0_5.index t 0 * 512 ≤ (i 0 : Nat) ∧ (i 0 : Nat) < win0_5.index t 0 * 512 + 512 := h 0
    rw [h0] at h'; exact h'
  · match a with
    | ⟨0, _⟩ => show win0_5.index t 0 * 512 ≤ (i 0 : Nat) ∧ (i 0 : Nat) < win0_5.index t 0 * 512 + 512
                rw [h0]; exact h
    | ⟨1, _⟩ => show win0_5.index t 1 * 1024 ≤ (i 1 : Nat) ∧ (i 1 : Nat) < win0_5.index t 1 * 1024 + 1024
                rw [h1, Nat.zero_mul, Nat.zero_add]; exact ⟨Nat.zero_le _, l1⟩

theorem cover (i : S4096x1024.Idx) :
    ∃ t : Fin cfg0.N, (cfg0.win 5).flush t = true ∧ i ∈ ((cfg0.win 5).blk t).view.set := by
  have h0 : (i 0 : Nat) < 4096 := (i 0).isLt
  have hN : cfg0.N = 8 := N_0
  refine ⟨⟨(i 0 : Nat) / 512, by omega⟩, flush0_5 _, ?_⟩
  rw [mem_blk]
  dsimp only
  omega

/-- So the output array ends holding the layer's rows. -/
theorem arr (c : Dev nD) : (dats m 0 c).arrAt 5 cfg0.N = result m c :=
  (dats m 0 c).arrAt_eq_of_cover 5 (result m c) (fun t _ => flushed_eq m c t) cover

/-! ## The host lines before the region -/

/-- The arguments. -/
abbrev argH (c : Dev nD) : FVec Ideal S4096x1024 .f32 := m ((c : Thread nD τ).loc main_arg0)
abbrev argGain (c : Dev nD) : FVec Ideal S1024 .f32 := m ((c : Thread nD τ).loc main_arg1)
abbrev argGate (c : Dev nD) : FVec Ideal S1024x2816 .f32 := m ((c : Thread nD τ).loc main_arg2)
abbrev argUp (c : Dev nD) : FVec Ideal S1024x2816 .f32 := m ((c : Thread nD τ).loc main_arg3)
abbrev argDown (c : Dev nD) : FVec Ideal S2816x1024 .f32 := m ((c : Thread nD τ).loc main_arg4)

/-- A weight cut in four shards of 704 rows, each padded by 64 rows of zeros. -/
def sharded (w : FVec Ideal S2816x1024 .f32) : FVec Ideal S4x768x1024 .bf16 :=
  truncf (F := Ideal) .bf16 (pad S4x768x1024 ![0, 0, 0] ![0, 64, 0] ![0, 0, 0]
    (shapeCast S4x704x1024 w shapeCasts_S2816x1024_S4x704x1024) (sitofp .f32 (constantI S_ 32 0#32))
    pads_S4x704x1024_S4x768x1024_000_0640_000 h_S_) bitsLt_bf16_f32

theorem sharded_apply (w : FVec Ideal S2816x1024 .f32) (s : Fin 4) (j : Fin 704) (k : Fin 1024) :
    sharded w (ix3 s ⟨j.val, by omega⟩ k) = w (ix2 (place s j) k) := by
  pointwise [sharded]
  refine congrArg w ?_
  refine congrArg (fun a => ix2 a k) (Fin.ext ?_)
  simp [place]; omega

theorem sharded_zero (w : FVec Ideal S2816x1024 .f32) (s : Fin 4) (j : Fin 768) (hj : 704 ≤ j.val) (k : Fin 1024) :
    sharded w (ix3 s j k) = (0 : EReal) := by
  pointwise [sharded]
  rw [dif_neg (by omega)]
  show ((((0#32 : BitVec 32).toInt : ℝ)) : EReal) = 0
  simp

theorem gate_eq (c : Dev nD) : gate m c = sharded (transpose S2816x1024 [1, 0] (argGate m c) transposes_S1024x2816_S2816x1024_1_0) := by
  show StableHlo.after (List.flatten [hostOps0, hostOps0_1, hostOps0_2, hostOps0_3, hostOps0_4, hostOps0_5, hostOps0_6]) (fun b => m (c, b)) (Proc.devRef .tc main_v4) = _
  unfold hostOps0 hostOps0_1 hostOps0_2 hostOps0_3 hostOps0_4 hostOps0_5 hostOps0_6
  simp only [List.flatten_cons, List.flatten_nil, List.append_nil, List.cons_append, List.nil_append]
  after_results
  rfl

theorem up_eq (c : Dev nD) : up m c = sharded (transpose S2816x1024 [1, 0] (argUp m c) transposes_S1024x2816_S2816x1024_1_0) := by
  show StableHlo.after (List.flatten [hostOps0, hostOps0_1, hostOps0_2, hostOps0_3, hostOps0_4, hostOps0_5, hostOps0_6]) (fun b => m (c, b)) (Proc.devRef .tc main_v8) = _
  unfold hostOps0 hostOps0_1 hostOps0_2 hostOps0_3 hostOps0_4 hostOps0_5 hostOps0_6
  simp only [List.flatten_cons, List.flatten_nil, List.append_nil, List.cons_append, List.nil_append]
  after_results
  rfl

theorem down_eq (c : Dev nD) : down m c = sharded (argDown m c) := by
  show StableHlo.after (List.flatten [hostOps0, hostOps0_1, hostOps0_2, hostOps0_3, hostOps0_4, hostOps0_5, hostOps0_6]) (fun b => m (c, b)) (Proc.devRef .tc main_v11) = _
  unfold hostOps0 hostOps0_1 hostOps0_2 hostOps0_3 hostOps0_4 hostOps0_5 hostOps0_6
  simp only [List.flatten_cons, List.flatten_nil, List.append_nil, List.cons_append, List.nil_append]
  after_results
  rfl

theorem gain_eq (c : Dev nD) : gain m c = broadcastInDim S1x1024 ![1] bcast_S1024_S1x1024_1 (argGain m c) := by
  show StableHlo.after (List.flatten [hostOps0, hostOps0_1, hostOps0_2, hostOps0_3, hostOps0_4, hostOps0_5, hostOps0_6]) (fun b => m (c, b)) (Proc.devRef .tc main_v0) = _
  unfold hostOps0 hostOps0_1 hostOps0_2 hostOps0_3 hostOps0_4 hostOps0_5 hostOps0_6
  simp only [List.flatten_cons, List.flatten_nil, List.append_nil, List.cons_append, List.nil_append]
  after_results

theorem gain_apply (c : Dev nD) (k : Fin 1024) : gain m c (ix2 0 k) = argGain m c (ix1 k) := by
  rw [gain_eq]
  pointwise

/-- The layer of the arguments, the hidden units in one row. -/
def spec (h : FVec Ideal S4096x1024 .f32) (g : FVec Ideal S1024 .f32) (wg wu : FVec Ideal S1024x2816 .f32) (wd : FVec Ideal S2816x1024 .f32) :
    FVec Ideal S4096x1024 .f32 := fun i =>
  layer (ι := Fin 2816) (fun k => h (ix2 (i 0) k)) (fun k => g (ix1 k)) (fun f k => wg (ix2 k f)) (fun f k => wu (ix2 k f)) (fun f k => wd (ix2 f k)) (i 1)

theorem result_eq (c : Dev nD) : result m c = spec (argH m c) (argGain m c) (argGate m c) (argUp m c) (argDown m c) := by
  funext i
  obtain ⟨r, d, rfl⟩ : ∃ (r : Fin 4096) (d : Fin 1024), i = ix2 r d := ⟨i 0, i 1, eq_ix2 i⟩
  show layer (ι := Fin 4 × Fin 768) (fun k => rows m c (ix2 r k)) (fun k => gain m c (ix2 0 k))
      (fun p k => gate m c (ix3 p.1 p.2 k)) (fun p k => up m c (ix3 p.1 p.2 k)) (fun p k => down m c (ix3 p.1 p.2 k)) d
    = layer (ι := Fin 2816) (fun k => argH m c (ix2 r k)) (fun k => argGain m c (ix1 k)) (fun f k => argGate m c (ix2 k f))
      (fun f k => argUp m c (ix2 k f)) (fun f k => argDown m c (ix2 f k)) d
  have hg : (fun k : Fin 1024 => gain m c (ix2 0 k)) = fun k => argGain m c (ix1 k) := funext fun k => gain_apply m c k
  rw [hg]
  unfold layer
  have hr : rows m c = argH m c := V_main_arg0 m c
  rw [hr, gate_eq, up_eq, down_eq, Fintype.sum_prod_type]
  refine congrArg (fun z => argH m c (ix2 r d) + Ideal.ofBits .f32 1056964608#32 * z) ?_
  refine sum_shards _ _ (fun s j => ?_) (fun s j hj => ?_)
  · simp only [sharded_apply]
    pointwise
  · dsimp only
    rw [sharded_zero _ _ _ hj, mul_zero]

/-! ## The claim -/

/-- The kernel's run, read: the result at the layer of the arguments, the arguments unchanged. -/
theorem run : θ_run defs (onTc (τ := τ) (main (F := Ideal))) ⟨m, fun _ => 0, ρ⟩ fun r => ∀ c : Dev nD,
      r.2.mem ((c : Thread nD τ).loc main_v12_0) = spec (argH m c) (argGain m c) (argGate m c) (argUp m c) (argDown m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (arr m c)).trans (result_eq m c), (h c).2.2.2⟩)
    (Cert.Kernel3Ideal.Value.run_blocks m ρ)

/-- Kernel and reference compute the same function over the extended reals. -/
theorem algebraic : Cert.algebraic_Kernel3Ideal_Reference3Ideal := by
  intro m g m' g' _ hargs
  refine ⟨_, run m g, (θ_run Cert.Reference3Ideal.defs _ _).mono (fun r h c => ⟨?_, (h c).2⟩)
    (Cert.Reference3Ideal.Value.run (F := Ideal) m' g')⟩
  refine ((h c).1).trans ?_
  rw [(hargs c).1, (hargs c).2.1, (hargs c).2.2.1, (hargs c).2.2.2.1, (hargs c).2.2.2.2]
  funext (i : S4096x1024.Idx)
  obtain ⟨r, d, rfl⟩ : ∃ (r : Fin 4096) (d : Fin 1024), i = ix2 r d := ⟨i 0, i 1, eq_ix2 i⟩
  pointwise [spec, layer, act, dotp, nrm, rinv]
  simp only [sub_eq_add_neg, zero_add]

end Cert.Forward

end
-- ==== Proof.InprojMath.lean ====
/-
  The gradient of the input projection, one row at a time: a row's seven cotangents laid side by side, and their product
  with the weight, whose columns may be laid out in four shards of 1664.
-/
module

public import proofs.«01_k».proof.Proof.BackwardMath

@[expose] public section

noncomputable section

open Idealize.ShloMosaic

namespace Cert.InprojMath

open Cert.FfnMath

/-- A row of 512 and six rows of 1024 side by side. -/
def cat (a : Fin 512 → EReal) (b : Fin 6 → Fin 1024 → EReal) (f : Fin 6656) : EReal :=
  if h : f.val < 512 then a ⟨f.val, h⟩ else b ⟨(f.val - 512) / 1024, by omega⟩ ⟨(f.val - 512) % 1024, by omega⟩

/-- The cotangent of the normalised row: the seven cotangents through the weight's rows. -/
def dproj (a : Fin 512 → EReal) (b : Fin 6 → Fin 1024 → EReal) (w : Fin 1024 → Fin 6656 → EReal) (d : Fin 1024) : EReal :=
  ∑ f, cat a b f * w d f

variable (a : Fin 512 → EReal) (b : Fin 6 → Fin 1024 → EReal)

theorem cat_head {f : Fin 6656} (h : f.val < 512) : cat a b f = a ⟨f.val, h⟩ := dif_pos h

theorem cat_at {f : Fin 6656} (k : Fin 6) (x : Fin 1024) (h : 512 + 1024 * k.val + x.val = f.val) : b k x = cat a b f := by
  unfold cat
  rw [dif_neg (by omega)]
  exact congrArg₂ b (Fin.ext (by show k.val = (f.val - 512) / 1024; omega)) (Fin.ext (by show x.val = (f.val - 512) % 1024; omega))

/-- The first row with zeros after it, -/
def head (f : Fin 6656) : EReal := if h : f.val < 512 then a ⟨f.val, h⟩ else 0

/-- and one of the others with zeros on both sides. -/
def piece (off : Nat) (x : Fin 1024 → EReal) (f : Fin 6656) : EReal :=
  if h : off ≤ f.val ∧ f.val - off < 1024 then x ⟨f.val - off, h.2⟩ else 0

theorem piece_zero {off : Nat} {x : Fin 1024 → EReal} {f : Fin 6656} (h : f.val < off ∨ off + 1024 ≤ f.val) : piece off x f = 0 :=
  dif_neg (by omega)

/-- The padded rows add up to the rows side by side. -/
theorem pads_eq (f : Fin 6656) :
    piece 5632 (b 5) f + piece 4608 (b 4) f + piece 3584 (b 3) f + piece 2560 (b 2) f + piece 1536 (b 1) f + piece 512 (b 0) f + head a f = cat a b f := by
  have hs : ∑ k : Fin 6, piece (512 + 1024 * k.val) (b k) f + head a f = cat a b f := by
    by_cases h : f.val < 512
    · rw [Finset.sum_eq_zero fun k _ => piece_zero (by omega), zero_add, cat_head a b h]
      exact dif_pos h
    · have hf := f.isLt
      rw [show head a f = 0 from dif_neg h, add_zero,
        Finset.sum_eq_single ⟨(f.val - 512) / 1024, by omega⟩ (fun k _ hk => piece_zero (by
          have : k.val ≠ (f.val - 512) / 1024 := fun e => hk (Fin.ext e)
          omega)) (fun hk => absurd (Finset.mem_univ _) hk)]
      unfold piece
      rw [dif_pos (by dsimp only; omega)]
      exact cat_at a b _ _ (by dsimp only; omega)
  have hs' : piece 512 (b 0) f + piece 1536 (b 1) f + piece 2560 (b 2) f + piece 3584 (b 3) f + piece 4608 (b 4) f + piece 5632 (b 5) f + head a f = cat a b f := by
    rw [Fin.sum_univ_six] at hs
    exact hs
  rw [← hs']
  ac_rfl

/-- The place of column `j` of shard `s` among all columns. -/
def place (s : Fin 4) (j : Fin 1664) : Fin 6656 := ⟨1664 * s.val + j.val, by omega⟩

/-- A sum over the shards is the sum over all columns. -/
theorem sum_shards {M : Type*} [AddCommMonoid M] (G : Fin 6656 → M) : ∑ s, ∑ j, G (place s j) = ∑ f, G f := by
  rw [← Fintype.sum_prod_type', ← Equiv.sum_comp (finProdFinEquiv (m := 4) (n := 1664)) G]
  refine Finset.sum_congr rfl fun p _ => congrArg G (Fin.ext ?_)
  simp [place, finProdFinEquiv]; omega

theorem isReal_cat {a : Fin 512 → EReal} {b : Fin 6 → Fin 1024 → EReal} (ha : ∀ x, IsReal (a x)) (hb : ∀ k x, IsReal (b k x)) (f : Fin 6656) :
    IsReal (cat a b f) := by
  unfold cat
  split
  · exact ha _
  · exact hb _ _

theorem isReal_dproj {a : Fin 512 → EReal} {b : Fin 6 → Fin 1024 → EReal} {w : Fin 1024 → Fin 6656 → EReal} (ha : ∀ x, IsReal (a x))
    (hb : ∀ k x, IsReal (b k x)) (hw : ∀ d f, IsReal (w d f)) (d : Fin 1024) : IsReal (dproj a b w d) :=
  isReal_sum fun f => isReal_mul (isReal_cat ha hb f) (hw d f)

end Cert.InprojMath

end
-- ==== Proof.InprojBackward.lean ====
/-
  The gradient of the input projection's input and gain: sixteen blocks of 256 rows, a row's seven cotangents laid side
  by side and cut into four shards of 1664 columns, whose products with the weight are added one after another; the
  gain's gradient added up over the blocks. What one block computes, and what the two output arrays hold.
-/
module

public import proofs.«01_k».proof.Proof.InprojMath
public import proofs.«01_k».proof.Proof.Gen.Kernel5Ideal.Value
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InprojBackward

open Cert.Kernel5Ideal Cert.Kernel5Ideal.Gen Cert.InprojMath
open Cert.FfnMath hiding place sum_shards

variable (m : (ℓ : Loc nD τ sig) → Buf (Elt Ideal) ℓ) (ρ : Dev nD → PrngReg)

/-! ## One block -/

section
variable (x0 x1 : Vec Ideal S256x1024 .f32) (x2 : Vec Ideal S1x1024 .f32) (x3 : Vec Ideal S4x1024x1664 .bf16) (x4 : Vec Ideal S256x512 .f32)
  (x5 x6 x7 x8 x9 x10 : Vec Ideal S256x1024 .f32)

/-- The six wide cotangents of the block's row `r`. -/
abbrev wide (r : Fin 256) : Fin 6 → Fin 1024 → EReal :=
  ![fun k => x5 (ix2 r k), fun k => x6 (ix2 r k), fun k => x7 (ix2 r k), fun k => x8 (ix2 r k), fun k => x9 (ix2 r k), fun k => x10 (ix2 r k)]

/-- The rows laid side by side. -/
theorem cat_apply (r : Fin 256) (f : Fin 6656) :
    k0_pay5 x4 x5 x6 x7 x8 x9 x10 (ix2 r f) = cat (fun k => x4 (ix2 r k)) (wide x5 x6 x7 x8 x9 x10 r) f := by
  have at_eq := fun k x h => cat_at (fun k => x4 (ix2 r k)) (wide x5 x6 x7 x8 x9 x10 r) (f := f) k x h
  pointwise [k0_pay5]
  have hf := f.isLt
  by_cases h : f.val < 512
  · rw [dif_pos h, cat_head _ _ h]
  rw [dif_neg h]
  by_cases h0 : f.val - 512 < 1024
  · rw [dif_pos h0]
    exact at_eq 0 ⟨f.val - 512, h0⟩ (by show 512 + 1024 * 0 + (f.val - 512) = f.val; omega)
  rw [dif_neg h0]
  by_cases h1 : f.val - 512 - 1024 < 1024
  · rw [dif_pos h1]
    exact at_eq 1 ⟨f.val - 512 - 1024, h1⟩ (by show 512 + 1024 * 1 + (f.val - 512 - 1024) = f.val; omega)
  rw [dif_neg h1]
  by_cases h2 : f.val - 512 - 1024 - 1024 < 1024
  · rw [dif_pos h2]
    exact at_eq 2 ⟨f.val - 512 - 1024 - 1024, h2⟩ (by show 512 + 1024 * 2 + (f.val - 512 - 1024 - 1024) = f.val; omega)
  rw [dif_neg h2]
  by_cases h3 : f.val - 512 - 1024 - 1024 - 1024 < 1024
  · rw [dif_pos h3]
    exact at_eq 3 ⟨f.val - 512 - 1024 - 1024 - 1024, h3⟩ (by show 512 + 1024 * 3 + (f.val - 512 - 1024 - 1024 - 1024) = f.val; omega)
  rw [dif_neg h3]
  by_cases h4 : f.val - 512 - 1024 - 1024 - 1024 - 1024 < 1024
  · rw [dif_pos h4]
    exact at_eq 4 ⟨f.val - 512 - 1024 - 1024 - 1024 - 1024, h4⟩ (by show 512 + 1024 * 4 + (f.val - 512 - 1024 - 1024 - 1024 - 1024) = f.val; omega)
  rw [dif_neg h4]
  exact at_eq 5 ⟨f.val - 512 - 1024 - 1024 - 1024 - 1024 - 1024, by omega⟩
    (by show 512 + 1024 * 5 + (f.val - 512 - 1024 - 1024 - 1024 - 1024 - 1024) = f.val; omega)

/-- The cotangent of the block's normalised rows, one shard after another, from the rows `z` laid side by side. -/
def dnBlk (z : FVec Ideal S256x6656 .bf16) (z0 : FVec Ideal S256x1664 .bf16) : FVec Ideal S256x1024 .f32 :=
  k0_pay8 z k0_pay6 z0 (View.ld x3 (Rect.unit ![0, 0, 0] ![1, 1024, 1664] inb_S4x1024x1664_S1x1024x1664_0_0_0))
    (View.ld x3 (Rect.unit ![1, 0, 0] ![1, 1024, 1664] inb_S4x1024x1664_S1x1024x1664_1_0_0))
    (View.ld x3 (Rect.unit ![2, 0, 0] ![1, 1024, 1664] inb_S4x1024x1664_S1x1024x1664_2_0_0))
    (View.ld x3 (Rect.unit ![3, 0, 0] ![1, 1024, 1664] inb_S4x1024x1664_S1x1024x1664_3_0_0))

theorem dnBlk_sums (z : FVec Ideal S256x6656 .bf16) (z0 : FVec Ideal S256x1664 .bf16) (r : Fin 256) (d : Fin 1024)
    (hz : ∀ j : Fin 1664, z0 (ix2 r j) = z (ix2 r (place 0 j))) :
    dnBlk x3 z z0 (ix2 r d) = ∑ s : Fin 4, ∑ j : Fin 1664, z (ix2 r (place s j)) * x3 (ix3 s d j) := by
  rw [Fin.sum_univ_four]
  simp only [← hz]
  pointwise [dnBlk, k0_pay8, k0_pay6]
  rfl

/-- The cotangent of a normalised row over the shards. -/
def nShards (a : Fin 512 → EReal) (b : Fin 6 → Fin 1024 → EReal) (w : FVec Ideal S4x1024x1664 .bf16) (d : Fin 1024) : EReal :=
  ∑ s : Fin 4, ∑ j : Fin 1664, cat a b (place s j) * w (ix3 s d j)

/-- That of the block's row `r`. -/
abbrev nRow (r : Fin 256) : Fin 1024 → EReal := nShards (fun k => x4 (ix2 r k)) (wide x5 x6 x7 x8 x9 x10 r) x3

theorem dnBlk_apply (r : Fin 256) (d : Fin 1024) :
    dnBlk x3 (k0_pay5 x4 x5 x6 x7 x8 x9 x10) (k0_pay7 x4 x5 x6 x7 x8 x9 x10) (ix2 r d) = nRow x3 x4 x5 x6 x7 x8 x9 x10 r d := by
  rw [dnBlk_sums x3 _ _ r d fun j => by
    pointwise [k0_pay7]
    exact congrArg (fun x => k0_pay5 x4 x5 x6 x7 x8 x9 x10 (ix2 r x)) (Fin.ext (by simp [place]))]
  unfold nRow nShards
  simp only [cat_apply]

/-- What the body leaves for the row's cotangent, -/
def dhBlk : FVec Ideal S256x1024 .f32 :=
  k0_pay11 x1 (k0_pay2 x2) (k0_pay3 x1) (k0_pay5 x4 x5 x6 x7 x8 x9 x10) k0_pay6 (k0_pay7 x4 x5 x6 x7 x8 x9 x10)
    (View.ld x3 (Rect.unit ![0, 0, 0] ![1, 1024, 1664] inb_S4x1024x1664_S1x1024x1664_0_0_0))
    (View.ld x3 (Rect.unit ![1, 0, 0] ![1, 1024, 1664] inb_S4x1024x1664_S1x1024x1664_1_0_0))
    (View.ld x3 (Rect.unit ![2, 0, 0] ![1, 1024, 1664] inb_S4x1024x1664_S1x1024x1664_2_0_0))
    (View.ld x3 (Rect.unit ![3, 0, 0] ![1, 1024, 1664] inb_S4x1024x1664_S1x1024x1664_3_0_0)) x0

/-- and its part of the gain's. -/
def dgBlk : FVec Ideal S1x1024 .f32 :=
  k0_pay10 x1 (k0_pay3 x1) (k0_pay5 x4 x5 x6 x7 x8 x9 x10) k0_pay6 (k0_pay7 x4 x5 x6 x7 x8 x9 x10)
    (View.ld x3 (Rect.unit ![0, 0, 0] ![1, 1024, 1664] inb_S4x1024x1664_S1x1024x1664_0_0_0))
    (View.ld x3 (Rect.unit ![1, 0, 0] ![1, 1024, 1664] inb_S4x1024x1664_S1x1024x1664_1_0_0))
    (View.ld x3 (Rect.unit ![2, 0, 0] ![1, 1024, 1664] inb_S4x1024x1664_S1x1024x1664_2_0_0))
    (View.ld x3 (Rect.unit ![3, 0, 0] ![1, 1024, 1664] inb_S4x1024x1664_S1x1024x1664_3_0_0))

theorem dhBlk_apply (r : Fin 256) (d : Fin 1024) :
    dhBlk x0 x1 x2 x3 x4 x5 x6 x7 x8 x9 x10 (ix2 r d)
      = drow (fun k => x0 (ix2 r k)) (fun k => x1 (ix2 r k)) (fun k => x2 (ix2 0 k)) (nRow x3 x4 x5 x6 x7 x8 x9 x10 r) d := by
  unfold dhBlk k0_pay11
  rw [show k0_pay8 _ _ _ _ _ _ _ = dnBlk x3 (k0_pay5 x4 x5 x6 x7 x8 x9 x10) (k0_pay7 x4 x5 x6 x7 x8 x9 x10) from rfl]
  pointwise [k0_pay2, k0_pay3, k0_pay9]
  simp only [dnBlk_apply]
  rfl

theorem dgBlk_apply (a : Fin 1) (d : Fin 1024) :
    dgBlk x1 x3 x4 x5 x6 x7 x8 x9 x10 (ix2 a d) = ∑ r, dgain (fun k => x1 (ix2 r k)) (nRow x3 x4 x5 x6 x7 x8 x9 x10 r) d := by
  unfold dgBlk k0_pay10
  rw [show k0_pay8 _ _ _ _ _ _ _ = dnBlk x3 (k0_pay5 x4 x5 x6 x7 x8 x9 x10) (k0_pay7 x4 x5 x6 x7 x8 x9 x10) from rfl]
  pointwise [k0_pay3, k0_pay9]
  simp only [dnBlk_apply]
  rfl
end

/-! ## The output arrays -/

/-- The arrays the region works on: the cotangent, the rows, the gain, the weight's shards, the seven cotangents. -/
abbrev cot (c : Dev nD) : FVec Ideal S4096x1024 .f32 := V m c main_arg0
abbrev rows (c : Dev nD) : FVec Ideal S4096x1024 .f32 := V m c main_arg1
abbrev gain (c : Dev nD) : FVec Ideal S1x1024 .f32 := V m c main_v0
abbrev weight (c : Dev nD) : FVec Ideal S4x1024x1664 .bf16 := V m c main_v3
abbrev d0 (c : Dev nD) : FVec Ideal S4096x512 .f32 := V m c main_arg4
abbrev d1 (c : Dev nD) : FVec Ideal S4096x1024 .f32 := V m c main_arg5
abbrev d2 (c : Dev nD) : FVec Ideal S4096x1024 .f32 := V m c main_arg6
abbrev d3 (c : Dev nD) : FVec Ideal S4096x1024 .f32 := V m c main_arg7
abbrev d4 (c : Dev nD) : FVec Ideal S4096x1024 .f32 := V m c main_arg8
abbrev d5 (c : Dev nD) : FVec Ideal S4096x1024 .f32 := V m c main_arg9
abbrev d6 (c : Dev nD) : FVec Ideal S4096x1024 .f32 := V m c main_arg10

/-- The six wide cotangents of row `r`. -/
def wideAll (c : Dev nD) (r : Fin 4096) : Fin 6 → Fin 1024 → EReal :=
  ![fun k => d1 m c (ix2 r k), fun k => d2 m c (ix2 r k), fun k => d3 m c (ix2 r k), fun k => d4 m c (ix2 r k), fun k => d5 m c (ix2 r k), fun k => d6 m c (ix2 r k)]

/-- The cotangent of row `r` of the normalised rows. -/
def nAll (c : Dev nD) (r : Fin 4096) : Fin 1024 → EReal := nShards (fun k => d0 m c (ix2 r k)) (wideAll m c r) (weight m c)

/-- What the first output array is shown to hold, -/
def resRow (c : Dev nD) : FVec Ideal S4096x1024 .f32 := fun i =>
  drow (fun k => cot m c (ix2 (i 0) k)) (fun k => rows m c (ix2 (i 0) k)) (fun k => gain m c (ix2 0 k)) (nAll m c (i 0)) (i 1)

/-- and the second. -/
def resGain (c : Dev nD) : FVec Ideal S1x1024 .f32 := fun i =>
  ∑ r : Fin 4096, dgain (fun k => rows m c (ix2 r k)) (nAll m c r) (i 1)

theorem index_facts : ∀ t : Fin cfg0.N,
    (win0_0.index t 0 = t.val ∧ win0_0.index t 1 = 0)
    ∧ (win0_2.index t 0 = 0 ∧ win0_2.index t 1 = 0)
    ∧ (win0_3.index t 0 = 0 ∧ win0_3.index t 1 = 0 ∧ win0_3.index t 2 = 0)
    ∧ (win0_4.index t 0 = t.val ∧ win0_4.index t 1 = 0)
    ∧ (win0_11.index t 0 = t.val ∧ win0_11.index t 1 = 0) :=
  (by decide +kernel : ∀ t : Fin grid0.N, _)

theorem lt16 (t : Fin cfg0.N) : t.val < 16 := lt_of_lt_of_eq t.isLt N_0

/-- Row `r` of block `t` among all rows. -/
def row (t : Fin cfg0.N) (r : Fin 256) : Fin 4096 := ⟨t.val * 256 + r.val, by have := lt16 t; omega⟩

/-- Where the wide windows' block `t` lies: at its rows. -/
theorem emb_row (t : Fin cfg0.N) (r : Fin 256) (k : Fin 1024) : (win0_0.rect t).emb (ix2 r k) = (ix2 (row t r) k : S4096x1024.Idx) := by
  obtain ⟨⟨h0, h1⟩, -⟩ := index_facts t
  refine funext fun x => Fin.ext ?_
  match x with
  | ⟨0, _⟩ => show win0_0.index t 0 * 256 + 1 * r.val = t.val * 256 + r.val; rw [h0]; omega
  | ⟨1, _⟩ => show win0_0.index t 1 * 1024 + 1 * k.val = k.val; rw [h1]; omega

/-- Point `t` reads the rows of block `t`, -/
theorem iblk0 (c : Dev nD) (t : Fin cfg0.N) (r : Fin 256) (k : Fin 1024) :
    (iblk m c 0 t : Vec Ideal S256x1024 .f32) (ix2 r k) = cot m c (ix2 (row t r) k) := congrArg (cot m c) (emb_row t r k)
theorem iblk1 (c : Dev nD) (t : Fin cfg0.N) (r : Fin 256) (k : Fin 1024) :
    (iblk m c 1 t : Vec Ideal S256x1024 .f32) (ix2 r k) = rows m c (ix2 (row t r) k) := congrArg (rows m c) (emb_row t r k)
theorem iblk5 (c : Dev nD) (t : Fin cfg0.N) (r : Fin 256) (k : Fin 1024) :
    (iblk m c 5 t : Vec Ideal S256x1024 .f32) (ix2 r k) = d1 m c (ix2 (row t r) k) := congrArg (d1 m c) (emb_row t r k)
theorem iblk6 (c : Dev nD) (t : Fin cfg0.N) (r : Fin 256) (k : Fin 1024) :
    (iblk m c 6 t : Vec Ideal S256x1024 .f32) (ix2 r k) = d2 m c (ix2 (row t r) k) := congrArg (d2 m c) (emb_row t r k)
theorem iblk7 (c : Dev nD) (t : Fin cfg0.N) (r : Fin 256) (k : Fin 1024) :
    (iblk m c 7 t : Vec Ideal S256x1024 .f32) (ix2 r k) = d3 m c (ix2 (row t r) k) := congrArg (d3 m c) (emb_row t r k)
theorem iblk8 (c : Dev nD) (t : Fin cfg0.N) (r : Fin 256) (k : Fin 1024) :
    (iblk m c 8 t : Vec Ideal S256x1024 .f32) (ix2 r k) = d4 m c (ix2 (row t r) k) := congrArg (d4 m c) (emb_row t r k)
theorem iblk9 (c : Dev nD) (t : Fin cfg0.N) (r : Fin 256) (k : Fin 1024) :
    (iblk m c 9 t : Vec Ideal S256x1024 .f32) (ix2 r k) = d5 m c (ix2 (row t r) k) := congrArg (d5 m c) (emb_row t r k)
theorem iblk10 (c : Dev nD) (t : Fin cfg0.N) (r : Fin 256) (k : Fin 1024) :
    (iblk m c 10 t : Vec Ideal S256x1024 .f32) (ix2 r k) = d6 m c (ix2 (row t r) k) := congrArg (d6 m c) (emb_row t r k)

theorem iblk4 (c : Dev nD) (t : Fin cfg0.N) (r : Fin 256) (k : Fin 512) :
    (iblk m c 4 t : Vec Ideal S256x512 .f32) (ix2 r k) = d0 m c (ix2 (row t r) k) := by
  obtain ⟨-, -, -, ⟨h0, h1⟩, -⟩ := index_facts t
  show d0 m c _ = _
  refine congrArg (d0 m c) (funext fun x => Fin.ext ?_)
  match x with
  | ⟨0, _⟩ => show win0_4.index t 0 * 256 + 1 * r.val = t.val * 256 + r.val; rw [h0]; omega
  | ⟨1, _⟩ => show win0_4.index t 1 * 512 + 1 * k.val = k.val; rw [h1]; omega

/-- and the gain and the weight whole. -/
theorem iblk2 (c : Dev nD) (t : Fin cfg0.N) : (iblk m c 2 t : Vec Ideal S1x1024 .f32) = gain m c := by
  obtain ⟨-, ⟨h0, h1⟩, -⟩ := index_facts t
  funext (j : S1x1024.Idx)
  show gain m c _ = _
  refine congrArg (gain m c) (funext fun x => Fin.ext ?_)
  match x with
  | ⟨0, _⟩ => show win0_2.index t 0 * 1 + 1 * (j 0).val = (j 0).val; rw [h0]; omega
  | ⟨1, _⟩ => show win0_2.index t 1 * 1024 + 1 * (j 1).val = (j 1).val; rw [h1]; omega

theorem iblk3 (c : Dev nD) (t : Fin cfg0.N) : (iblk m c 3 t : Vec Ideal S4x1024x1664 .bf16) = weight m c := by
  obtain ⟨-, -, ⟨h0, h1, h2⟩, -⟩ := index_facts t
  funext (j : S4x1024x1664.Idx)
  show weight m c _ = _
  refine congrArg (weight m c) (funext fun x => Fin.ext ?_)
  match x with
  | ⟨0, _⟩ => show win0_3.index t 0 * 4 + 1 * (j 0).val = (j 0).val; rw [h0]; omega
  | ⟨1, _⟩ => show win0_3.index t 1 * 1024 + 1 * (j 1).val = (j 1).val; rw [h1]; omega
  | ⟨2, _⟩ => show win0_3.index t 2 * 1664 + 1 * (j 2).val = (j 2).val; rw [h2]; omega

/-- So a block's cotangent of the normalised rows is that of its rows among all. -/
theorem nRow_blk (c : Dev nD) (t : Fin cfg0.N) (r : Fin 256) :
    nRow (iblk m c 3 t) (iblk m c 4 t) (iblk m c 5 t) (iblk m c 6 t) (iblk m c 7 t) (iblk m c 8 t) (iblk m c 9 t) (iblk m c 10 t) r = nAll m c (row t r) := by
  unfold nRow nAll wide wideAll
  rw [iblk3]
  simp only [iblk4, iblk5, iblk6, iblk7, iblk8, iblk9, iblk10]

/-- The blocks of point `t`, in the body's two results. -/
abbrev dhAt (c : Dev nD) (t : Fin cfg0.N) : FVec Ideal S256x1024 .f32 :=
  dhBlk (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev dgAt (c : Dev nD) (t : Fin cfg0.N) : FVec Ideal S1x1024 .f32 :=
  dgBlk (iblk m c 1 t) (iblk m c 3 t) (iblk m c 4 t) (iblk m c 5 t) (iblk m c 6 t) (iblk m c 7 t) (iblk m c 8 t) (iblk m c 9 t) (iblk m c 10 t)

/-- What a point leaves in the first output's buffer. -/
theorem out11 (c : Dev nD) (t : Fin cfg0.N) : (outsAt0 m c t.val t.isLt).1 = dhAt m c t := by
  have ht := lt16 t
  by_cases h : t.val = 0
  · rw [outsAt0_A m c t (by omega) (by omega)]; dsimp only; frame_out; rfl
  · rw [outsAt0_B m c t (by omega) (by omega)]; dsimp only; frame_out; rfl

/-- The second output's buffer: the first point writes its part, -/
theorem out12_A (c : Dev nD) (t : Fin cfg0.N) (h0 : t.val % 16 = 0) (h1 : ¬1 ≤ t.val) :
    (outsAt0 m c t.val t.isLt).2.1 = dgAt m c t := by
  rw [outsAt0_A m c t h0 h1]; dsimp only; frame_out; rfl

/-- the later ones add theirs. -/
theorem out12_B (c : Dev nD) (t : Fin cfg0.N) (h0 : ¬t.val % 16 = 0) (h1 : 1 ≤ t.val) :
    (outsAt0 m c t.val t.isLt).2.1 = addf (F := Ideal) (shapeCast S1x1024 (outsAt0 m c (t.val - 1) (Nat.lt_of_le_of_lt (Nat.sub_le _ _) t.isLt)).2.1 shapeCasts_S1x1024_S1x1024)
      (dgAt m c t) := by
  rw [outsAt0_B m c t h0 h1]; dsimp only; frame_out; rfl

/-- A block's part of the gain's cotangent. -/
def part (c : Dev nD) (t : Fin cfg0.N) (d : Fin 1024) : EReal := ∑ r : Fin 256, dgain (fun k => rows m c (ix2 (row t r) k)) (nAll m c (row t r)) d

theorem dgAt_eq (c : Dev nD) (t : Fin cfg0.N) (a : Fin 1) (d : Fin 1024) : dgAt m c t (ix2 a d) = part m c t d := by
  unfold dgAt
  rw [dgBlk_apply]
  unfold part
  refine Finset.sum_congr rfl fun r _ => ?_
  rw [nRow_blk]
  simp only [iblk1]

/-- After point `n`: the parts of the points so far. -/
theorem out12 (c : Dev nD) (a : Fin 1) (d : Fin 1024) : ∀ n (h : n < cfg0.N),
    ((outsAt0 m c n h).2.1 (ix2 a d) : EReal) = ∑ p : Fin (n + 1), part m c ⟨p.val, lt_of_lt_of_le p.isLt h⟩ d
  | 0, h => by
    rw [out12_A m c ⟨0, h⟩ rfl (Nat.not_succ_le_zero 0), dgAt_eq]
    simp
  | n + 1, h => by
    have hN : cfg0.N = 16 := N_0
    rw [out12_B m c ⟨n + 1, h⟩ (by show ¬(n + 1) % 16 = 0; omega) (Nat.le_add_left 1 n)]
    rw [Fin.sum_univ_castSucc]
    refine congrArg₂ (· + ·) ?_ (dgAt_eq m c ⟨n + 1, h⟩ a d)
    pointwise
    exact out12 c a d n (Nat.lt_of_succ_lt h)

/-- What point `t` writes back is block `t` of the rows' cotangents. -/
theorem flushed_eq (c : Dev nD) (t : Fin cfg0.N) :
    (dats m 0 c).flushed 11 t = (win0_11.blk t).view.read (Elt Ideal) (resRow m c) := by
  show (cfg0.win 11).cut (grid0.coords t) ((dats m 0 c).after 11 t) = _
  rw [after0_11, out11]
  refine funext fun (j : S256x1024.Idx) => ?_
  obtain ⟨r, d, rfl⟩ : ∃ (r : Fin 256) (d : Fin 1024), j = ix2 r d := ⟨j 0, j 1, eq_ix2 j⟩
  refine (dhBlk_apply (iblk m c 0 t) (iblk m c 1 t) (iblk m c 2 t) (iblk m c 3 t) (iblk m c 4 t) (iblk m c 5 t) (iblk m c 6 t) (iblk m c 7 t) (iblk m c 8 t)
    (iblk m c 9 t) (iblk m c 10 t) r d).trans ?_
  rw [nRow_blk, iblk2]
  simp only [iblk0, iblk1]
  show _ = resRow m c ((win0_0.rect t).emb (ix2 r d))
  rw [emb_row]
  rfl

/-- The sixteen blocks tile the output. -/
theorem mem_blk (t : Fin cfg0.N) (i : S4096x1024.Idx) :
    i ∈ ((cfg0.win 11).blk t).view.set ↔ t.val * 256 ≤ (i 0 : Nat) ∧ (i 0 : Nat) < t.val * 256 + 256 := by
  show i ∈ ((View.whole main_v4_0).slice (win0_11.rect t)).set ↔ _
  rw [View.set_slice_whole, Rect.mem_set_unit]
  obtain ⟨-, -, -, -, h0, h1⟩ := index_facts t
  have l1 : (i 1 : Nat) < 1024 := (i 1).isLt
  refine ⟨fun h => ?_, fun h a => ?_⟩
  · have h' : win0_11.index t 0 * 256 ≤ (i 0 : Nat) ∧ (i 0 : Nat) < win0_11.index t 0 * 256 + 256 := h 0
    rw [h0] at h'; exact h'
  · match a with
    | ⟨0, _⟩ => show win0_11.index t 0 * 256 ≤ (i 0 : Nat) ∧ (i 0 : Nat) < win0_11.index t 0 * 256 + 256
                rw [h0]; exact h
    | ⟨1, _⟩ => show win0_11.index t 1 * 1024 ≤ (i 1 : Nat) ∧ (i 1 : Nat) < win0_11.index t 1 * 1024 + 1024
                rw [h1, Nat.zero_mul, Nat.zero_add]; exact ⟨Nat.zero_le _, l1⟩

theorem cover (i : S4096x1024.Idx) :
    ∃ t : Fin cfg0.N, (cfg0.win 11).flush t = true ∧ i ∈ ((cfg0.win 11).blk t).view.set := by
  have h0 : (i 0 : Nat) < 4096 := (i 0).isLt
  have hN : cfg0.N = 16 := N_0
  refine ⟨⟨(i 0 : Nat) / 256, by omega⟩, flush0_11 _, ?_⟩
  rw [mem_blk]
  dsimp only
  omega

/-- So the first output array ends holding the rows' cotangents, -/
theorem arrRow (c : Dev nD) : (dats m 0 c).arrAt 11 cfg0.N = resRow m c :=
  (dats m 0 c).arrAt_eq_of_cover 11 (resRow m c) (fun t _ => flushed_eq m c t) cover

/-- The blocks' parts together are the sum over all rows. -/
theorem sum_part (c : Dev nD) (d : Fin 1024) :
    ∑ p : Fin 16, part m c ⟨p.val, lt_of_lt_of_eq p.isLt N_0.symm⟩ d = ∑ r : Fin 4096, dgain (fun k => rows m c (ix2 r k)) (nAll m c r) d := by
  unfold part
  rw [← Fintype.sum_prod_type', ← Equiv.sum_comp (finProdFinEquiv (m := 16) (n := 256)) (fun r : Fin 4096 => dgain (fun k => rows m c (ix2 r k)) (nAll m c r) d)]
  refine Finset.sum_congr rfl fun p _ => ?_
  rw [show row ⟨p.1.val, lt_of_lt_of_eq p.1.isLt N_0.symm⟩ p.2 = (finProdFinEquiv (m := 16) (n := 256) p : Fin 4096) from
    Fin.ext (by simp [row, finProdFinEquiv]; omega)]

/-- and the second the gain's. -/
theorem arrGain (c : Dev nD) : (dats m 0 c).arrAt 12 cfg0.N = resGain m c := by
  refine (dats m 0 c).arrAt_eq_of_after_last 12 t0_15 (by decide +kernel) _ fun j => ?_
  blk_simp
  obtain ⟨a, d, rfl⟩ : ∃ (a : Fin 1) (d : Fin 1024), j = ix2 a d := ⟨j 0, j 1, eq_ix2 (n0 := 1) (n1 := 1024) j⟩
  rw [after0_12]
  exact (out12 m c a d 15 t0_15.isLt).trans (sum_part m c d)

end Cert.InprojBackward

end
-- ==== Proof.InprojBackwardRef.lean ====
/-
  What the reference computes for the two cotangents of the input projection, read at an index.
-/
module

public import proofs.«01_k».proof.Proof.InprojMath
public import proofs.«01_k».proof.Proof.Gen.Reference5Ideal.Run
public import proofs.«01_k».proof.Proof.Gen.Reference5Ideal.Read
public import Idealize.ShloMosaic.Lib.Pointwise

@[expose] public section

set_option maxRecDepth 16384

noncomputable section

open Idealize.ShloMosaic Idealize.ShloMosaic.TcCoe Idealize.SL.Sem

namespace Cert.InprojBackwardRef

open Cert.Reference5Ideal Cert.Reference5Ideal.Gen Cert.FfnMath Cert.InprojMath

variable (ct h : FVec Ideal S4096x1024 .f32) (g : FVec Ideal S1024 .f32) (w : FVec Ideal S1024x6656 .f32) (x4 : FVec Ideal S4096x512 .f32)
  (x5 x6 x7 x8 x9 x10 : FVec Ideal S4096x1024 .f32)

/-- The six wide cotangents of row `r`. -/
abbrev wide (r : Fin 4096) : Fin 6 → Fin 1024 → EReal :=
  ![fun k => x5 (ix2 r k), fun k => x6 (ix2 r k), fun k => x7 (ix2 r k), fun k => x8 (ix2 r k), fun k => x9 (ix2 r k), fun k => x10 (ix2 r k)]

/-- A row of the normalised rows' cotangent. -/
def nRow (r : Fin 4096) : Fin 1024 → EReal :=
  dproj (fun k => x4 (ix2 r k)) (wide x5 x6 x7 x8 x9 x10 r) (fun d f => w (ix2 d f))

open Cert.Reference5Ideal.Read in
theorem cat_apply (r : Fin 4096) (f : Fin 6656) :
    val_main_v38 (F := Ideal) x4 x5 x6 x7 x8 x9 x10 (ix2 r f) = cat (fun k => x4 (ix2 r k)) (wide x5 x6 x7 x8 x9 x10 r) f := by
  refine Eq.trans ?_ (pads_eq (fun k => x4 (ix2 r k)) (wide x5 x6 x7 x8 x9 x10 r) f)
  pointwise [val_main_v26, val_main_v27, val_main_v28, val_main_v29, val_main_v30, val_main_v31, val_main_v32, val_main_v33, val_main_v34, val_main_v35,
    val_main_v36, val_main_v37, val_main_v38, val_main_cst_4, val_main_cst_5, val_main_cst_6, val_main_cst_7, val_main_cst_8, val_main_cst_9, val_main_cst_10]
  rfl

open Cert.Reference5Ideal.Read in
theorem n_apply (r : Fin 4096) (d : Fin 1024) : val_main_v41 (F := Ideal) w x4 x5 x6 x7 x8 x9 x10 (ix2 r d) = nRow w x4 x5 x6 x7 x8 x9 x10 r d := by
  unfold nRow dproj
  simp only [← cat_apply]
  unfold val_main_v41
  generalize val_main_v38 (F := Ideal) x4 x5 x6 x7 x8 x9 x10 = z
  pointwise

open Cert.Reference5Ideal.Read in
theorem row_apply (r : Fin 4096) (d : Fin 1024) : val_main_v60 (F := Ideal) ct h g w x4 x5 x6 x7 x8 x9 x10 (ix2 r d)
    = drow' (fun k => ct (ix2 r k)) (fun k => h (ix2 r k)) (fun k => g (ix1 k)) (nRow w x4 x5 x6 x7 x8 x9 x10 r) d := by
  have e : drow' (fun k => ct (ix2 r k)) (fun k => h (ix2 r k)) (fun k => g (ix1 k)) (nRow w x4 x5 x6 x7 x8 x9 x10 r) d
     = drow' (fun k => ct (ix2 r k)) (fun k => h (ix2 r k)) (fun k => g (ix1 k)) (fun d => val_main_v41 (F := Ideal) w x4 x5 x6 x7 x8 x9 x10 (ix2 r d)) d := by
    simp only [n_apply]
  rw [e]
  unfold drow'
  unfold val_main_v60 val_main_v53 val_main_v59 val_main_v52 val_main_v58 val_main_v57 val_main_v56 val_main_v54 val_main_v50 val_main_v49 val_main_v48 val_main_v46
  generalize val_main_v41 (F := Ideal) w x4 x5 x6 x7 x8 x9 x10 = z
  pointwise [val_main_v2, val_main_v1, val_main_cst, val_main_cst_0, val_main_cst_1, val_main_cst_2, val_main_cst_3, val_main_cst_13, val_main_cst_14, val_main_cst_15,
    val_main_v0, val_main_v3, val_main_v4, val_main_v5, val_main_v6, val_main_v7, val_main_v8, val_main_v9,
    val_main_v10, val_main_v11, val_main_v12, val_main_v15, val_main_v45, val_main_v51, val_main_v55]
  simp only [rinv, Finset.univ_unique, Finset.sum_singleton]

open Cert.Reference5Ideal.Read in
theorem gain_apply (a : Fin 1) (d : Fin 1024) : val_main_v61 (F := Ideal) h w x4 x5 x6 x7 x8 x9 x10 (ix2 a d)
    = ∑ r, h (ix2 r d) * rinv (fun k => h (ix2 r k)) * nRow w x4 x5 x6 x7 x8 x9 x10 r d := by
  simp only [← n_apply]
  unfold val_main_v61 val_main_v47 val_main_v44 val_main_v43 val_main_v42
  generalize val_main_v41 (F := Ideal) w x4 x5 x6 x7 x8 x9 x10 = z
  pointwise [val_main_cst_11, val_main_cst_12, val_main_v14, val_main_v13, val_main_cst_0, val_main_cst_1, val_main_cst_2, val_main_v0, val_main_v3, val_main_v4,
    val_main_v5, val_main_v6, val_main_v7, val_main_v8, val_main_v9]
  simp only [rinv, Finset.univ_unique, Finset.sum_singleton]

end Cert.InprojBackwardRef

end
-- ==== Proof.InprojBackwardClaim.lean ====
/-
  The two cotangents of the input projection against the reference: the host lines before the region, the shards
  together, and, on real arguments, the kernel's form of the gradient equal to the reference's.
-/
module

public import proofs.«01_k».proof.Defs
public import proofs.«01_k».proof.Proof.BackwardClaim
public import proofs.«01_k».proof.Proof.InprojBackward
public import proofs.«01_k».proof.Proof.InprojBackwardRef
public import Idealize.ShloMosaic.Lib.Quiescent

@[expose] public section

set_option maxRecDepth 16384

noncomputable section

open Idealize.ShloMosaic Idealize.ShloMosaic.TcCoe Idealize.SL.Sem

namespace Cert.InprojBackward

open Cert.Kernel5Ideal Cert.Kernel5Ideal.Gen Cert.InprojMath
open Cert.FfnMath hiding place sum_shards

variable (m : (ℓ : Loc nD τ sig) → Buf (Elt Ideal) ℓ) (ρ : Dev nD → PrngReg)

/-! ## The host lines before the region -/

/-- The arguments. -/
abbrev argCt (c : Dev nD) : FVec Ideal S4096x1024 .f32 := m ((c : Thread nD τ).loc main_arg0)
abbrev argH (c : Dev nD) : FVec Ideal S4096x1024 .f32 := m ((c : Thread nD τ).loc main_arg1)
abbrev argGain (c : Dev nD) : FVec Ideal S1024 .f32 := m ((c : Thread nD τ).loc main_arg2)
abbrev argW (c : Dev nD) : FVec Ideal S1024x6656 .f32 := m ((c : Thread nD τ).loc main_arg3)
abbrev arg0 (c : Dev nD) : FVec Ideal S4096x512 .f32 := m ((c : Thread nD τ).loc main_arg4)
abbrev arg1 (c : Dev nD) : FVec Ideal S4096x1024 .f32 := m ((c : Thread nD τ).loc main_arg5)
abbrev arg2 (c : Dev nD) : FVec Ideal S4096x1024 .f32 := m ((c : Thread nD τ).loc main_arg6)
abbrev arg3 (c : Dev nD) : FVec Ideal S4096x1024 .f32 := m ((c : Thread nD τ).loc main_arg7)
abbrev arg4 (c : Dev nD) : FVec Ideal S4096x1024 .f32 := m ((c : Thread nD τ).loc main_arg8)
abbrev arg5 (c : Dev nD) : FVec Ideal S4096x1024 .f32 := m ((c : Thread nD τ).loc main_arg9)
abbrev arg6 (c : Dev nD) : FVec Ideal S4096x1024 .f32 := m ((c : Thread nD τ).loc main_arg10)

theorem gain_apply (c : Dev nD) (k : Fin 1024) : gain m c (ix2 0 k) = argGain m c (ix1 k) := by
  have e : gain m c = broadcastInDim S1x1024 ![1] bcast_S1024_S1x1024_1 (argGain m c) := by
    show StableHlo.after (List.flatten [hostOps0]) (fun b => m (c, b)) (Proc.devRef .tc main_v0) = _
    unfold hostOps0
    simp only [List.flatten_cons, List.flatten_nil, List.append_nil, List.cons_append, List.nil_append]
    after_results
  rw [e]
  pointwise

/-- The weight's shards hold its columns. -/
theorem weight_apply (c : Dev nD) (s : Fin 4) (k : Fin 1024) (j : Fin 1664) : weight m c (ix3 s k j) = argW m c (ix2 k (place s j)) := by
  have e : weight m c = truncf (F := Ideal) .bf16 (transpose S4x1024x1664 [1, 0, 2]
      (shapeCast S1024x4x1664 (argW m c) shapeCasts_S1024x6656_S1024x4x1664) transposes_S1024x4x1664_S4x1024x1664_1_0_2) bitsLt_bf16_f32 := by
    show StableHlo.after (List.flatten [hostOps0]) (fun b => m (c, b)) (Proc.devRef .tc main_v3) = _
    unfold hostOps0
    simp only [List.flatten_cons, List.flatten_nil, List.append_nil, List.cons_append, List.nil_append]
    after_results
    rfl
  rw [e]
  pointwise
  refine congrArg (argW m c) (congrArg (fun x => ix2 k x) (Fin.ext ?_))
  simp [place]; omega

/-! ## Over all columns -/

/-- The six wide cotangents of row `r`, and the cotangent of the normalised row. -/
abbrev wideArg (c : Dev nD) (r : Fin 4096) : Fin 6 → Fin 1024 → EReal :=
  Cert.InprojBackwardRef.wide (arg1 m c) (arg2 m c) (arg3 m c) (arg4 m c) (arg5 m c) (arg6 m c) r
abbrev nArg (c : Dev nD) (r : Fin 4096) : Fin 1024 → EReal :=
  Cert.InprojBackwardRef.nRow (argW m c) (arg0 m c) (arg1 m c) (arg2 m c) (arg3 m c) (arg4 m c) (arg5 m c) (arg6 m c) r

theorem nAll_eq (c : Dev nD) (r : Fin 4096) : nAll m c r = nArg m c r := by
  have h0 : d0 m c = arg0 m c := V_main_arg4 m c
  have h1 : d1 m c = arg1 m c := V_main_arg5 m c
  have h2 : d2 m c = arg2 m c := V_main_arg6 m c
  have h3 : d3 m c = arg3 m c := V_main_arg7 m c
  have h4 : d4 m c = arg4 m c := V_main_arg8 m c
  have h5 : d5 m c = arg5 m c := V_main_arg9 m c
  have h6 : d6 m c = arg6 m c := V_main_arg10 m c
  have hw : wideAll m c r = wideArg m c r := by
    unfold wideAll wideArg
    rw [h1, h2, h3, h4, h5, h6]
  funext d
  unfold nAll nShards nArg Cert.InprojBackwardRef.nRow dproj
  rw [hw, h0]
  refine (Finset.sum_congr rfl fun s _ => Finset.sum_congr rfl fun j _ => ?_).trans
    (sum_shards fun f => cat (fun k => arg0 m c (ix2 r k)) (wideArg m c r) f * argW m c (ix2 d f))
  rw [weight_apply]

/-- The rows' cotangents and the gain's, of the arguments. -/
def specRow (c : Dev nD) : FVec Ideal S4096x1024 .f32 := fun i =>
  drow (fun k => argCt m c (ix2 (i 0) k)) (fun k => argH m c (ix2 (i 0) k)) (fun k => argGain m c (ix1 k)) (nArg m c (i 0)) (i 1)

def specGain (c : Dev nD) : FVec Ideal S1x1024 .f32 := fun i =>
  ∑ r : Fin 4096, dgain (fun k => argH m c (ix2 r k)) (nArg m c r) (i 1)

theorem resRow_eq (c : Dev nD) : resRow m c = specRow m c := by
  have hc : cot m c = argCt m c := V_main_arg0 m c
  have hr : rows m c = argH m c := V_main_arg1 m c
  have hg : (fun k : Fin 1024 => gain m c (ix2 0 k)) = fun k => argGain m c (ix1 k) := funext fun k => gain_apply m c k
  funext i
  have hn := nAll_eq m c (i 0)
  show drow (fun k => cot m c (ix2 (i 0) k)) (fun k => rows m c (ix2 (i 0) k)) (fun k : Fin 1024 => gain m c (ix2 0 k)) (nAll m c (i 0)) (i 1) = _
  rw [hg, hc, hr, hn]
  rfl

theorem resGain_eq (c : Dev nD) : resGain m c = specGain m c := by
  have hr : rows m c = argH m c := V_main_arg1 m c
  funext i
  unfold resGain specGain
  simp only [nAll_eq, hr]

/-! ## The claim -/

/-- The kernel's run, read: the two results at the cotangents of the arguments, the arguments unchanged. -/
theorem run : θ_run defs (onTc (τ := τ) (main (F := Ideal))) ⟨m, fun _ => 0, ρ⟩ fun r => ∀ c : Dev nD,
      r.2.mem ((c : Thread nD τ).loc main_v4_0) = specRow m c
      ∧ r.2.mem ((c : Thread nD τ).loc main_v4_1) = specGain m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).1.trans (arrRow m c)).trans (resRow_eq m c), ((h c).2.1.trans (arrGain m c)).trans (resGain_eq m c),
      (h c).2.2.2.2⟩)
    (Cert.Kernel5Ideal.Value.run_blocks m ρ)

/-- Kernel and reference compute the same two cotangents over the extended reals, the arguments being real numbers. -/
theorem algebraic [Cert.Pre_finite5.Facts] : Cert.algebraic_Kernel5Ideal_Reference5Ideal_pre_finite5 := by
  intro m g m' g' hpre hargs
  refine ⟨_, _, run m g, (θ_run Cert.Reference5Ideal.defs _ _).mono (fun r h c => ⟨?_, ?_, (h c).2.2⟩)
    (Cert.Reference5Ideal.Value.run (F := Ideal) m' g')⟩
  all_goals
    obtain ⟨p0, p1, p2, p3, p4, p5, p6, p7, p8, p9, p10⟩ := hpre c
    obtain ⟨e0, e1, e2, e3, e4, e5, e6, e7, e8, e9, e10⟩ := hargs c
    have f0 : ∀ i, IsReal (argCt m c i) := fun i => Cert.Backward.isReal_of_cmp (congrFun p0 i)
    have f1 : ∀ i, IsReal (argH m c i) := fun i => Cert.Backward.isReal_of_cmp (congrFun p1 i)
    have f2 : ∀ i, IsReal (argGain m c i) := fun i => Cert.Backward.isReal_of_cmp (congrFun p2 i)
    have f3 : ∀ i, IsReal (argW m c i) := fun i => Cert.Backward.isReal_of_cmp (congrFun p3 i)
    have f4 : ∀ i, IsReal (arg0 m c i) := fun i => Cert.Backward.isReal_of_cmp (congrFun p4 i)
    have f5 : ∀ i, IsReal (arg1 m c i) := fun i => Cert.Backward.isReal_of_cmp (congrFun p5 i)
    have f6 : ∀ i, IsReal (arg2 m c i) := fun i => Cert.Backward.isReal_of_cmp (congrFun p6 i)
    have f7 : ∀ i, IsReal (arg3 m c i) := fun i => Cert.Backward.isReal_of_cmp (congrFun p7 i)
    have f8 : ∀ i, IsReal (arg4 m c i) := fun i => Cert.Backward.isReal_of_cmp (congrFun p8 i)
    have f9 : ∀ i, IsReal (arg5 m c i) := fun i => Cert.Backward.isReal_of_cmp (congrFun p9 i)
    have f10 : ∀ i, IsReal (arg6 m c i) := fun i => Cert.Backward.isReal_of_cmp (congrFun p10 i)
    have fw : ∀ r k x, IsReal (wideArg m c r k x) := fun r k x => by
      fin_cases k
      exacts [f5 _, f6 _, f7 _, f8 _, f9 _, f10 _]
    have fn : ∀ r d, IsReal (nArg m c r d) := fun r d => isReal_dproj (fun x => f4 _) (fw r) (fun d f => f3 _) d
  · refine ((h c).1).trans ((Cert.Reference5Ideal.Read.val_main_v60_eq m' c).trans ?_)
    rw [e0, e1, e2, e3, e4, e5, e6, e7, e8, e9, e10]
    funext (i : S4096x1024.Idx)
    obtain ⟨r, d, rfl⟩ : ∃ (r : Fin 4096) (d : Fin 1024), i = ix2 r d := ⟨i 0, i 1, eq_ix2 i⟩
    refine (Cert.InprojBackwardRef.row_apply (argCt m c) (argH m c) (argGain m c) (argW m c) (arg0 m c) (arg1 m c) (arg2 m c) (arg3 m c) (arg4 m c)
      (arg5 m c) (arg6 m c) r d).trans ?_
    exact (drow_eq (fun k => f0 _) (fun k => f1 _) (fun k => f2 _) (fn r) d).symm
  · refine ((h c).2.1).trans ((Cert.Reference5Ideal.Read.val_main_v61_eq _ _ _ _ _ _ _ _ _).trans ?_)
    rw [e1, e3, e4, e5, e6, e7, e8, e9, e10]
    funext (i : S1x1024.Idx)
    obtain ⟨a, d, rfl⟩ : ∃ (a : Fin 1) (d : Fin 1024), i = ix2 a d := ⟨i 0, i 1, eq_ix2 i⟩
    refine (Cert.InprojBackwardRef.gain_apply (argH m c) (argW m c) (arg0 m c) (arg1 m c) (arg2 m c) (arg3 m c) (arg4 m c)
      (arg5 m c) (arg6 m c) a d).trans ?_
    show _ = ∑ r : Fin 4096, dgain (fun k => argH m c (ix2 r k)) (nArg m c r) d
    refine Finset.sum_congr rfl fun r _ => ?_
    rw [dgain_eq]

end Cert.InprojBackward

end
-- ==== Proof.InprojWeightGrad.lean ====
/-
  The weight gradient of the input projection: the 6656 columns in four shards of 1664, each shard's product contracting
  the 4096 rows in two halves of 2048 that are added one after the other, the shards laid side by side again. Here the
  region's output array is read off the generated run, the host lines around it are evaluated, and the result is met
  with the reference's one product index by index.
-/
module

public import proofs.«01_k».proof.Defs
public import proofs.«01_k».proof.Proof.Gen.Kernel6Ideal.Frame
public import proofs.«01_k».proof.Proof.Gen.Reference6Ideal.Run
public import Idealize.ShloMosaic.Lib.Pipeline.Value
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InprojWeightGrad

open Cert.Kernel6Ideal Cert.Kernel6Ideal.Gen

variable (m : (ℓ : Loc nD τ sig) → Buf (Elt Ideal) ℓ) (ρ : Dev nD → PrngReg)

/-- A half's product at an index: the contraction over its 2048 rows. -/
theorem pay_apply (x : Vec Ideal S2048x1024 .bf16) (y : Vec Ideal S2048x1664 .bf16) (a : Fin 1) (d : Fin 1024) (j : Fin 1664) :
    k0_pay2 x y (ix3 a d j) = ∑ k : Fin 2048, (x (ix2 k d) : EReal) * y (ix2 k j) := by
  pointwise [k0_pay2, k0_pay1]

/-- The second half's added to what is there. -/
theorem pay_add_apply (x : Vec Ideal S2048x1024 .bf16) (y : Vec Ideal S2048x1664 .bf16) (z : Vec Ideal S1x1024x1664 .f32) (a : Fin 1) (d : Fin 1024) (j : Fin 1664) :
    k0_pay3 x y z (ix3 a d j) = z (ix3 a d j) + ∑ k : Fin 2048, (x (ix2 k d) : EReal) * y (ix2 k j) := by
  have ha : a = 0 := Subsingleton.elim _ _
  subst ha
  pointwise [k0_pay3, k0_pay1]

/-- The rows of the input and of the cotangent, as the region finds them. -/
abbrev inp (c : Dev nD) : Vec Ideal S4096x1024 .bf16 := V m c main_v0
abbrev cot (c : Dev nD) : Vec Ideal S4096x6656 .bf16 := V m c main_v1

/-- Column `j` of shard `s` among all columns. -/
def place (s : Fin 4) (j : Fin 1664) : Fin 6656 := ⟨1664 * s.val + j.val, by omega⟩

/-- All four shards' products. -/
def grads (c : Dev nD) : Vec Ideal S4x1024x1664 .f32 := fun i =>
  ∑ k : Fin 4096, (inp m c (ix2 k (i 1)) : EReal) * cot m c (ix2 k (place (i 0) (i 2)))

theorem index_facts : ∀ t : Fin cfg0.N,
    (win0_0.index t 0 = t.val % 2 ∧ win0_0.index t 1 = 0)
    ∧ (win0_1.index t 0 = t.val % 2 ∧ win0_1.index t 1 = t.val / 2)
    ∧ (win0_2.index t 0 = t.val / 2 ∧ win0_2.index t 1 = 0 ∧ win0_2.index t 2 = 0) :=
  (by decide +kernel : ∀ t : Fin grid0.N, _)

theorem lt8 (t : Fin cfg0.N) : t.val < 8 := lt_of_lt_of_eq t.isLt N_0

/-- The shard point `t` works on, and the rows it reads. -/
def shard (t : Fin cfg0.N) : Fin 4 := ⟨t.val / 2, by have := lt8 t; omega⟩
def row (t : Fin cfg0.N) (k : Fin 2048) : Fin 4096 := ⟨2048 * (t.val % 2) + k.val, by omega⟩

theorem iblk0 (c : Dev nD) (t : Fin cfg0.N) (k : Fin 2048) (d : Fin 1024) :
    (iblk m c 0 t : Vec Ideal S2048x1024 .bf16) (ix2 k d) = inp m c (ix2 (row t k) d) := by
  obtain ⟨⟨h0, h1⟩, -⟩ := index_facts t
  show inp m c _ = _
  refine congrArg (inp m c) (funext fun x => Fin.ext ?_)
  match x with
  | ⟨0, _⟩ => show win0_0.index t 0 * 2048 + 1 * k.val = 2048 * (t.val % 2) + k.val; rw [h0]; omega
  | ⟨1, _⟩ => show win0_0.index t 1 * 1024 + 1 * d.val = d.val; rw [h1]; omega

theorem iblk1 (c : Dev nD) (t : Fin cfg0.N) (k : Fin 2048) (j : Fin 1664) :
    (iblk m c 1 t : Vec Ideal S2048x1664 .bf16) (ix2 k j) = cot m c (ix2 (row t k) (place (shard t) j)) := by
  obtain ⟨-, ⟨h0, h1⟩, -⟩ := index_facts t
  show cot m c _ = _
  refine congrArg (cot m c) (funext fun x => Fin.ext ?_)
  match x with
  | ⟨0, _⟩ => show win0_1.index t 0 * 2048 + 1 * k.val = 2048 * (t.val % 2) + k.val; rw [h0]; omega
  | ⟨1, _⟩ => show win0_1.index t 1 * 1664 + 1 * j.val = 1664 * (t.val / 2) + j.val; rw [h1]; omega

/-- What a point of the first half leaves in the output's buffer, -/
theorem out_A (c : Dev nD) (t : Fin cfg0.N) (h0 : t.val % 2 = 0) (h1 : ¬t.val % 2 = 1) :
    outsAt0 m c t.val t.isLt = k0_pay2 (iblk m c 0 t) (iblk m c 1 t) := by
  rw [outsAt0_A m c t h0 h1]; frame_out

/-- and one of the second. -/
theorem out_B (c : Dev nD) (t : Fin cfg0.N) (h0 : ¬t.val % 2 = 0) (h1 : t.val % 2 = 1) :
    outsAt0 m c t.val t.isLt = k0_pay3 (iblk m c 0 t) (iblk m c 1 t) (outsAt0 m c (t.val - 1) (Nat.lt_of_le_of_lt (Nat.sub_le _ _) t.isLt)) := by
  rw [outsAt0_B m c t h0 h1]; frame_out

/-- After both halves: the contraction over all rows. -/
theorem out_apply (c : Dev nD) (t : Fin cfg0.N) (h1 : t.val % 2 = 1) (a : Fin 1) (d : Fin 1024) (j : Fin 1664) :
    (outsAt0 m c t.val t.isLt (ix3 a d j) : EReal) = grads m c (ix3 (shard t) d j) := by
  rw [out_B m c t (by omega) h1, pay_add_apply]
  rw [out_A m c ⟨t.val - 1, Nat.lt_of_le_of_lt (Nat.sub_le _ _) t.isLt⟩ (by show (t.val - 1) % 2 = 0; omega) (by show ¬(t.val - 1) % 2 = 1; omega), pay_apply]
  show _ = ∑ k : Fin (2048 + 2048), (inp m c (ix2 k d) : EReal) * cot m c (ix2 k (place (shard t) j))
  rw [Fin.sum_univ_add]
  have e0 : ∀ k : Fin 2048, row ⟨t.val - 1, Nat.lt_of_le_of_lt (Nat.sub_le _ _) t.isLt⟩ k = Fin.castAdd 2048 k := fun k =>
    Fin.ext (by show 2048 * ((t.val - 1) % 2) + k.val = k.val; omega)
  have e1 : ∀ k : Fin 2048, row t k = Fin.natAdd 2048 k := fun k =>
    Fin.ext (by show 2048 * (t.val % 2) + k.val = 2048 + k.val; omega)
  have es : shard ⟨t.val - 1, Nat.lt_of_le_of_lt (Nat.sub_le _ _) t.isLt⟩ = shard t :=
    Fin.ext (by show (t.val - 1) / 2 = t.val / 2; omega)
  refine congrArg₂ (· + ·) (Finset.sum_congr rfl fun k _ => ?_) (Finset.sum_congr rfl fun k _ => ?_)
  · rw [iblk0, iblk1, e0, es]
  · rw [iblk0, iblk1, e1]

/-- What a point of the second half writes back is its shard of the products. -/
theorem flushed_eq (c : Dev nD) (t : Fin cfg0.N) (ht : t.val % 2 = 1) :
    (dats m 0 c).flushed 2 t = (win0_2.blk t).view.read (Elt Ideal) (grads m c) := by
  show (cfg0.win 2).cut (grid0.coords t) ((dats m 0 c).after 2 t) = _
  rw [after0_2]
  obtain ⟨-, -, h0, h1, h2⟩ := index_facts t
  refine funext fun (i : S1x1024x1664.Idx) => ?_
  obtain ⟨a, d, j, rfl⟩ : ∃ (a : Fin 1) (d : Fin 1024) (j : Fin 1664), i = ix3 a d j := ⟨i 0, i 1, i 2, eq_ix3 i⟩
  refine (out_apply m c t ht a d j).trans ?_
  show _ = grads m c ((win0_2.rect t).emb (ix3 a d j))
  have e : (win0_2.rect t).emb (ix3 a d j) = (ix3 (shard t) d j : S4x1024x1664.Idx) := by
    have ha : a.val = 0 := by omega
    refine funext fun x => Fin.ext ?_
    match x with
    | ⟨0, _⟩ => show win0_2.index t 0 * 1 + 1 * a.val = t.val / 2; rw [h0, ha]; omega
    | ⟨1, _⟩ => show win0_2.index t 1 * 1024 + 1 * d.val = d.val; rw [h1]; omega
    | ⟨2, _⟩ => show win0_2.index t 2 * 1664 + 1 * j.val = j.val; rw [h2]; omega
  rw [e]

/-- The four blocks tile the output. -/
theorem mem_blk (t : Fin cfg0.N) (i : S4x1024x1664.Idx) :
    i ∈ ((cfg0.win 2).blk t).view.set ↔ t.val / 2 = (i 0 : Nat) := by
  show i ∈ ((View.whole main_v2).slice (win0_2.rect t)).set ↔ _
  rw [View.set_slice_whole, Rect.mem_set_unit]
  obtain ⟨-, -, h0, h1, h2⟩ := index_facts t
  have l1 : (i 1 : Nat) < 1024 := (i 1).isLt
  have l2 : (i 2 : Nat) < 1664 := (i 2).isLt
  refine ⟨fun h => ?_, fun h a => ?_⟩
  · have h' : win0_2.index t 0 * 1 ≤ (i 0 : Nat) ∧ (i 0 : Nat) < win0_2.index t 0 * 1 + 1 := h 0
    rw [h0] at h'; omega
  · match a with
    | ⟨0, _⟩ => show win0_2.index t 0 * 1 ≤ (i 0 : Nat) ∧ (i 0 : Nat) < win0_2.index t 0 * 1 + 1
                rw [h0]; omega
    | ⟨1, _⟩ => show win0_2.index t 1 * 1024 ≤ (i 1 : Nat) ∧ (i 1 : Nat) < win0_2.index t 1 * 1024 + 1024
                rw [h1]; omega
    | ⟨2, _⟩ => show win0_2.index t 2 * 1664 ≤ (i 2 : Nat) ∧ (i 2 : Nat) < win0_2.index t 2 * 1664 + 1664
                rw [h2]; omega

theorem cover (i : S4x1024x1664.Idx) :
    ∃ t : Fin cfg0.N, (cfg0.win 2).flush t = true ∧ i ∈ ((cfg0.win 2).blk t).view.set := by
  have h0 : (i 0 : Nat) < 4 := (i 0).isLt
  have hN : cfg0.N = 8 := N_0
  refine ⟨⟨2 * (i 0 : Nat) + 1, by omega⟩, (flush0_2 _).mpr (by dsimp only; omega), ?_⟩
  rw [mem_blk]
  dsimp only
  omega

/-- So the output array ends holding the four products. -/
theorem arr (c : Dev nD) : (dats m 0 c).arrAt 2 cfg0.N = grads m c :=
  (dats m 0 c).arrAt_eq_of_cover 2 (grads m c) (fun t ht => flushed_eq m c t ((flush0_2 t).mp ht)) cover

/-! ## The host lines -/

/-- The two arguments. -/
abbrev argX (c : Dev nD) : FVec Ideal S4096x1024 .f32 := m ((c : Thread nD τ).loc main_arg0)
abbrev argCt (c : Dev nD) : FVec Ideal S4096x6656 .f32 := m ((c : Thread nD τ).loc main_arg1)

theorem inp_eq (c : Dev nD) : inp m c = truncf (F := Ideal) .bf16 (argX m c) bitsLt_bf16_f32 := by
  show StableHlo.after (List.flatten [hostOps0]) (fun b => m (c, b)) (Proc.devRef .tc main_v0) = _
  unfold hostOps0
  simp only [List.flatten_cons, List.flatten_nil, List.append_nil, List.cons_append, List.nil_append]
  after_results

theorem cot_eq (c : Dev nD) : cot m c = truncf (F := Ideal) .bf16 (argCt m c) bitsLt_bf16_f32 := by
  show StableHlo.after (List.flatten [hostOps0]) (fun b => m (c, b)) (Proc.devRef .tc main_v1) = _
  unfold hostOps0
  simp only [List.flatten_cons, List.flatten_nil, List.append_nil, List.cons_append, List.nil_append]
  after_results

/-- The result after the lines behind the region: the shards laid side by side. -/
theorem tail_eq (c : Dev nD) : Pipeline.afterTail₀ cfgs (dats m) 0 (V0 m) [hostOps1] c main_v4
    = shapeCast S1024x6656 (transpose S1024x4x1664 [1, 0, 2] (grads m c) transposes_S4x1024x1664_S1024x4x1664_1_0_2)
        shapeCasts_S1024x4x1664_S1024x6656 := by
  have h : Pipeline.withArrays (cfgs 0).spec c (V0 m c) (fun w => (dats m 0 c).arrAt w (cfgs 0).N) (Proc.devRef .tc main_v2) = grads m c :=
    (Pipeline.withArrays_arr spec0 launch0.win.arr_inj c (V0 m c) (fun w => (dats m 0 c).arrAt w cfg0.N) 2).trans (arr m c)
  unfold Pipeline.afterTail₀
  generalize Pipeline.withArrays (cfgs 0).spec c (V0 m c) (fun w => (dats m 0 c).arrAt w (cfgs 0).N) = W at h ⊢
  unfold hostOps1
  simp only [List.flatten_cons, List.flatten_nil, List.append_nil]
  after_results
  rw [h]
  rfl

/-- The same at an index: one contraction over the rows. -/
theorem tail_apply (c : Dev nD) (d : Fin 1024) (f : Fin 6656) :
    (Pipeline.afterTail₀ cfgs (dats m) 0 (V0 m) [hostOps1] c main_v4 : FVec Ideal S1024x6656 .f32) (ix2 d f)
      = ∑ k : Fin 4096, argX m c (ix2 k d) * argCt m c (ix2 k f) := by
  rw [tail_eq]
  pointwise [grads, place]
  rw [inp_eq, cot_eq]
  pointwise
  refine Finset.sum_congr (M := EReal) rfl fun k _ => ?_
  refine congrArg (fun z => argX m c (ix2 k d) * argCt m c (ix2 k z)) (Fin.ext ?_)
  dsimp only
  omega

/-- The kernel's run, read: the result at the contraction, the arguments unchanged. -/
theorem run : θ_run defs (onTc (τ := τ) (main (F := Ideal))) ⟨m, fun _ => 0, ρ⟩ fun r => ∀ c : Dev nD,
      r.2.mem ((c : Thread nD τ).loc main_v4) = (fun i => ∑ k : Fin 4096, argX m c (ix2 k (i 0)) * argCt m c (ix2 k (i 1)) : FVec Ideal S1024x6656 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v4 (Pipeline.mem_restRefs_of main_v4 (by decide) (by decide))).trans
        (funext fun (i : S1024x6656.Idx) => by
          obtain ⟨d, f, rfl⟩ : ∃ (d : Fin 1024) (f : Fin 6656), i = ix2 d f := ⟨i 0, i 1, eq_ix2 i⟩
          exact tail_apply m c d f),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The reference's result at an index: the same contraction, the factors exchanged. -/
theorem ref_eq (hT : Cert.Reference6Ideal.S6656x1024.Transposes [1, 0] Cert.Reference6Ideal.S1024x6656) (ct : FVec Ideal S4096x6656 .f32) (x : FVec Ideal S4096x1024 .f32) :
    transpose Cert.Reference6Ideal.S1024x6656 [1, 0] (Host.dotGeneral (F := Ideal) Cert.Reference6Ideal.dot_S4096x6656_S4096x1024_S6656x1024_0_0_1_1_n_n none ct x) hT
      = (fun i => ∑ k : Fin 4096, x (ix2 k (i 0)) * ct (ix2 k (i 1)) : FVec Ideal S1024x6656 .f32) := by
  funext i
  obtain ⟨d, f, rfl⟩ : ∃ (d : Fin 1024) (f : Fin 6656), i = ix2 d f := ⟨i 0, i 1, eq_ix2 i⟩
  pointwise
  exact Finset.sum_congr (M := EReal) rfl fun k _ => mul_comm _ _

/-- Kernel and reference compute the same function over the extended reals. -/
theorem algebraic : Cert.algebraic_Kernel6Ideal_Reference6Ideal := by
  intro m g m' g' _ hargs
  refine ⟨_, run m g, (θ_run Cert.Reference6Ideal.defs _ _).mono (fun r h c => ⟨?_, (h c).2⟩)
    (Cert.Reference6Ideal.Value.run (F := Ideal) m' g')⟩
  refine ((h c).1).trans ?_
  rw [(hargs c).1, (hargs c).2]
  exact ref_eq _ _ _

end Cert.InprojWeightGrad

end
-- ==== Proof.InprojForward.lean ====
/-
  The input projection: sixteen blocks of 256 rows, each row normalised and multiplied with the four shards of 1664
  columns, the shards laid side by side and cut into seven results. What one block computes, what the seven output
  arrays hold, what the reference computes, and that the two agree.
-/
module

public import proofs.«01_k».proof.Defs
public import proofs.«01_k».proof.Proof.FfnMath
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InprojForward

open Cert.Kernel7Ideal Cert.Kernel7Ideal.Gen Cert.FfnMath

variable (m : (ℓ : Loc nD τ sig) → Buf (Elt Ideal) ℓ) (ρ : Dev nD → PrngReg)

theorem hz2 : (![0, 0] : Fin 2 → Nat) = fun _ => 0 := funext fun a => by fin_cases a <;> rfl

/-- Where column `f` of all lies: its shard, and its place there. -/
def shardOf (f : Fin 6656) : Fin 4 := ⟨f.val / 1664, by omega⟩
def placeOf (f : Fin 6656) : Fin 1664 := ⟨f.val % 1664, by omega⟩

theorem shardOf_eq {f : Fin 6656} {s : Fin 4} {j : Fin 1664} (h : 1664 * s.val + j.val = f.val) : s = shardOf f :=
  Fin.ext (by show s.val = f.val / 1664; omega)
theorem placeOf_eq {f : Fin 6656} {s : Fin 4} {j : Fin 1664} (h : 1664 * s.val + j.val = f.val) : j = placeOf f :=
  Fin.ext (by show j.val = f.val % 1664; omega)

/-- A block's row, normalised, against column `j` of shard `s`. -/
def dotAt (x : Vec Ideal S256x1024 .f32) (g : Vec Ideal S1x1024 .f32) (w : Vec Ideal S4x1024x1664 .bf16) (r : Fin 256) (s : Fin 4) (j : Fin 1664) : EReal :=
  dotp (nrm (fun k => x (ix2 r k)) (fun k => g (ix2 0 k))) (fun k => w (ix3 s k j))

/-- A block's projected rows at an index. -/
theorem proj_apply (x : Vec Ideal S256x1024 .f32) (g : Vec Ideal S1x1024 .f32) (w : Vec Ideal S4x1024x1664 .bf16) (r : Fin 256) (f : Fin 6656) :
    k0_pay9 x g w (ix2 r f) = dotAt x g w r (shardOf f) (placeOf f) := by
  have e0 : View.ld x r0_0 = x := View.ld_unit_zero hz2 _ _
  have e1 : View.ld g r0_1 = g := View.ld_unit_zero hz2 _ _
  have at_eq : ∀ (s : Fin 4) (j : Fin 1664), 1664 * s.val + j.val = f.val → dotAt x g w r s j = dotAt x g w r (shardOf f) (placeOf f) :=
    fun s j h => congrArg₂ (dotAt x g w r) (shardOf_eq h) (placeOf_eq h)
  unfold k0_pay9 k0_pay6
  rw [e0, e1]
  pointwise [dotAt, dotp, nrm, rinv]
  simp only [dotAt, dotp, nrm, rinv] at at_eq
  by_cases h0 : f.val < 1664
  · rw [dif_pos h0]
    exact at_eq 0 ⟨f.val, h0⟩ (by show 1664 * 0 + f.val = f.val; omega)
  rw [dif_neg h0]
  by_cases h1 : f.val - 1664 < 1664
  · rw [dif_pos h1]
    exact at_eq 1 ⟨f.val - 1664, h1⟩ (by show 1664 * 1 + (f.val - 1664) = f.val; omega)
  rw [dif_neg h1]
  by_cases h2 : f.val - 1664 - 1664 < 1664
  · rw [dif_pos h2]
    exact at_eq 2 ⟨f.val - 1664 - 1664, h2⟩ (by show 1664 * 2 + (f.val - 1664 - 1664) = f.val; omega)
  rw [dif_neg h2]
  exact at_eq 3 ⟨f.val - 1664 - 1664 - 1664, by omega⟩ (by show 1664 * 3 + (f.val - 1664 - 1664 - 1664) = f.val; omega)

section
variable (x : Vec Ideal S256x1024 .f32) (g : Vec Ideal S1x1024 .f32) (w : Vec Ideal S4x1024x1664 .bf16) (r : Fin 256)

/-! What the body leaves in the seven outputs' buffers: pieces of the projected rows. -/

theorem out3_apply (d : Fin 512) : out0_3 x g w (ix2 r d) = k0_pay9 x g w (ix2 r ⟨0 + d.val, by omega⟩) := by
  unfold out0_3; rw [View.canon_unit_zero hz2]; pointwise [k0_pay7]; rfl
theorem out4_apply (d : Fin 1024) : out0_4 x g w (ix2 r d) = k0_pay9 x g w (ix2 r ⟨512 + d.val, by omega⟩) := by
  unfold out0_4; rw [View.canon_unit_zero hz2]; pointwise [k0_pay8]; rfl
theorem out5_apply (d : Fin 1024) : out0_5 x g w (ix2 r d) = k0_pay9 x g w (ix2 r ⟨1536 + d.val, by omega⟩) := by
  unfold out0_5; rw [View.canon_unit_zero hz2]; pointwise [k0_pay1]
theorem out6_apply (d : Fin 1024) : out0_6 x g w (ix2 r d) = k0_pay9 x g w (ix2 r ⟨2560 + d.val, by omega⟩) := by
  unfold out0_6; rw [View.canon_unit_zero hz2]; pointwise [k0_pay2]
theorem out7_apply (d : Fin 1024) : out0_7 x g w (ix2 r d) = k0_pay9 x g w (ix2 r ⟨3584 + d.val, by omega⟩) := by
  unfold out0_7; rw [View.canon_unit_zero hz2]; pointwise [k0_pay3]
theorem out8_apply (d : Fin 1024) : out0_8 x g w (ix2 r d) = k0_pay9 x g w (ix2 r ⟨4608 + d.val, by omega⟩) := by
  unfold out0_8; rw [View.canon_unit_zero hz2]; pointwise [k0_pay4]
theorem out9_apply (d : Fin 1024) : out0_9 x g w (ix2 r d) = k0_pay9 x g w (ix2 r ⟨5632 + d.val, by omega⟩) := by
  unfold out0_9; rw [View.canon_unit_zero hz2]; pointwise [k0_pay5]
end

/-! ## The arrays and the host lines before the region -/

/-- The arrays the region works on: the rows, the gain, the weight's shards. -/
abbrev rows (c : Dev nD) : FVec Ideal S4096x1024 .f32 := V m c main_arg0
abbrev gain (c : Dev nD) : FVec Ideal S1x1024 .f32 := V m c main_v0
abbrev weight (c : Dev nD) : FVec Ideal S4x1024x1664 .bf16 := V m c main_v3

/-- The arguments. -/
abbrev argH (c : Dev nD) : FVec Ideal S4096x1024 .f32 := m ((c : Thread nD τ).loc main_arg0)
abbrev argGain (c : Dev nD) : FVec Ideal S1024 .f32 := m ((c : Thread nD τ).loc main_arg1)
abbrev argW (c : Dev nD) : FVec Ideal S1024x6656 .f32 := m ((c : Thread nD τ).loc main_arg2)

theorem gain_apply (c : Dev nD) (k : Fin 1024) : gain m c (ix2 0 k) = argGain m c (ix1 k) := by
  have e : gain m c = broadcastInDim S1x1024 ![1] bcast_S1024_S1x1024_1 (argGain m c) := by
    show StableHlo.after (List.flatten [hostOps0]) (fun b => m (c, b)) (Proc.devRef .tc main_v0) = _
    unfold hostOps0
    simp only [List.flatten_cons, List.flatten_nil, List.append_nil, List.cons_append, List.nil_append]
    after_results
  rw [e]
  pointwise

theorem weight_apply (c : Dev nD) (k : Fin 1024) (f : Fin 6656) : weight m c (ix3 (shardOf f) k (placeOf f)) = argW m c (ix2 k f) := by
  have e : weight m c = truncf (F := Ideal) .bf16 (transpose S4x1024x1664 [1, 0, 2]
      (shapeCast S1024x4x1664 (argW m c) shapeCasts_S1024x6656_S1024x4x1664) transposes_S1024x4x1664_S4x1024x1664_1_0_2) bitsLt_bf16_f32 := by
    show StableHlo.after (List.flatten [hostOps0]) (fun b => m (c, b)) (Proc.devRef .tc main_v3) = _
    unfold hostOps0
    simp only [List.flatten_cons, List.flatten_nil, List.append_nil, List.cons_append, List.nil_append]
    after_results
    rfl
  rw [e]
  pointwise [shardOf, placeOf]

/-! ## The output arrays -/

/-- Row `r`'s projection, column `f`. -/
def projected (h : FVec Ideal S4096x1024 .f32) (g : FVec Ideal S1024 .f32) (w : FVec Ideal S1024x6656 .f32) (r : Fin 4096) (f : Fin 6656) : EReal :=
  dotp (nrm (fun k => h (ix2 r k)) (fun k => g (ix1 k))) (fun k => w (ix2 k f))

/-- The first 512 columns of the projection, -/
def headCols (h : FVec Ideal S4096x1024 .f32) (g : FVec Ideal S1024 .f32) (w : FVec Ideal S1024x6656 .f32) : FVec Ideal S4096x512 .f32 := fun i =>
  projected h g w (i 0) ⟨0 + (i 1).val, by have : (i 1).val < 512 := (i 1).isLt; omega⟩

/-- and 1024 columns from `off` on. -/
def cols (off : Nat) (hoff : off + 1024 ≤ 6656) (h : FVec Ideal S4096x1024 .f32) (g : FVec Ideal S1024 .f32) (w : FVec Ideal S1024x6656 .f32) :
    FVec Ideal S4096x1024 .f32 := fun i =>
  projected h g w (i 0) ⟨off + (i 1).val, by have : (i 1).val < 1024 := (i 1).isLt; omega⟩

theorem index_facts : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = t.val ∧ win0_3.index t 1 = 0)
    ∧ (win0_4.index t 0 = t.val ∧ win0_4.index t 1 = 0) :=
  (by decide +kernel : ∀ t : Fin grid0.N, _)

theorem lt16 (t : Fin cfg0.N) : t.val < 16 := lt_of_lt_of_eq t.isLt N_0

/-- Row `r` of block `t` among all rows, and the block a row lies in. -/
def row (t : Fin cfg0.N) (r : Fin 256) : Fin 4096 := ⟨t.val * 256 + r.val, by have := lt16 t; omega⟩
def blkOf (r : Fin 4096) : Fin cfg0.N := ⟨r.val / 256, by have : cfg0.N = 16 := N_0; omega⟩

/-- Point `t` reads the rows of block `t`, -/
theorem iblk0 (c : Dev nD) (t : Fin cfg0.N) (r : Fin 256) (k : Fin 1024) :
    (iblk m c 0 t : Vec Ideal S256x1024 .f32) (ix2 r k) = rows m c (ix2 (row t r) k) := by
  obtain ⟨⟨h0, h1⟩, -⟩ := index_facts t
  show rows m c _ = _
  refine congrArg (rows m c) (funext fun x => Fin.ext ?_)
  match x with
  | ⟨0, _⟩ => show win0_0.index t 0 * 256 + 1 * r.val = t.val * 256 + r.val; rw [h0]; omega
  | ⟨1, _⟩ => show win0_0.index t 1 * 1024 + 1 * k.val = k.val; rw [h1]; omega

/-- and the gain and the weight whole. -/
theorem iblk1 (c : Dev nD) (t : Fin cfg0.N) : (iblk m c 1 t : Vec Ideal S1x1024 .f32) = gain m c := by
  obtain ⟨-, ⟨h0, h1⟩, -⟩ := index_facts t
  funext (j : S1x1024.Idx)
  show gain m c _ = _
  refine congrArg (gain m c) (funext fun x => Fin.ext ?_)
  match x with
  | ⟨0, _⟩ => show win0_1.index t 0 * 1 + 1 * (j 0).val = (j 0).val; rw [h0]; omega
  | ⟨1, _⟩ => show win0_1.index t 1 * 1024 + 1 * (j 1).val = (j 1).val; rw [h1]; omega

theorem iblk2 (c : Dev nD) (t : Fin cfg0.N) : (iblk m c 2 t : Vec Ideal S4x1024x1664 .bf16) = weight m c := by
  obtain ⟨-, -, ⟨h0, h1, h2⟩, -⟩ := index_facts t
  funext (j : S4x1024x1664.Idx)
  show weight m c _ = _
  refine congrArg (weight m c) (funext fun x => Fin.ext ?_)
  match x with
  | ⟨0, _⟩ => show win0_2.index t 0 * 4 + 1 * (j 0).val = (j 0).val; rw [h0]; omega
  | ⟨1, _⟩ => show win0_2.index t 1 * 1024 + 1 * (j 1).val = (j 1).val; rw [h1]; omega
  | ⟨2, _⟩ => show win0_2.index t 2 * 1664 + 1 * (j 2).val = (j 2).val; rw [h2]; omega

/-- So a block's projected rows are the projections of its rows among all. -/
theorem blk_apply (c : Dev nD) (t : Fin cfg0.N) (r : Fin 256) (f : Fin 6656) :
    k0_pay9 (iblk m c 0 t) (iblk m c 1 t) (iblk m c 2 t) (ix2 r f) = projected (argH m c) (argGain m c) (argW m c) (row t r) f := by
  have hr : rows m c = argH m c := V_main_arg0 m c
  rw [proj_apply]
  unfold dotAt projected
  rw [iblk1, iblk2]
  have hg : (fun k : Fin 1024 => gain m c (ix2 0 k)) = fun k => argGain m c (ix1 k) := funext fun k => gain_apply m c k
  have hw : (fun k : Fin 1024 => weight m c (ix3 (shardOf f) k (placeOf f))) = fun k => argW m c (ix2 k f) := funext fun k => weight_apply m c k f
  simp only [iblk0]
  rw [hr, hg, hw]

/-- An output's buffer that holds 1024 columns of the block's projected rows is the block of those columns' array. -/
theorem block_eq (off : Nat) (hoff : off + 1024 ≤ 6656) (c : Dev nD) (t : Fin cfg0.N) (p : Vec Ideal S256x1024 .f32)
    (hp : ∀ (r : Fin 256) (d : Fin 1024), p (ix2 r d) = k0_pay9 (iblk m c 0 t) (iblk m c 1 t) (iblk m c 2 t) (ix2 r ⟨off + d.val, by omega⟩)) (j : S256x1024.Idx) :
    p j = cols off hoff (argH m c) (argGain m c) (argW m c) ((win0_4.rect t).emb j) := by
  obtain ⟨-, -, -, -, h0, h1⟩ := index_facts t
  obtain ⟨r, d, rfl⟩ : ∃ (r : Fin 256) (d : Fin 1024), j = ix2 r d := ⟨j 0, j 1, eq_ix2 j⟩
  have e : (win0_4.rect t).emb (ix2 r d) = (ix2 (row t r) d : S4096x1024.Idx) := by
    refine funext fun x => Fin.ext ?_
    match x with
    | ⟨0, _⟩ => show win0_4.index t 0 * 256 + 1 * r.val = t.val * 256 + r.val; rw [h0]; omega
    | ⟨1, _⟩ => show win0_4.index t 1 * 1024 + 1 * d.val = d.val; rw [h1]; omega
  rw [hp, blk_apply, e]
  rfl

theorem headBlock_eq (c : Dev nD) (t : Fin cfg0.N) (j : S256x512.Idx) :
    out0_3 (iblk m c 0 t) (iblk m c 1 t) (iblk m c 2 t) j = headCols (argH m c) (argGain m c) (argW m c) ((win0_3.rect t).emb j) := by
  obtain ⟨-, -, -, ⟨h0, h1⟩, -⟩ := index_facts t
  obtain ⟨r, d, rfl⟩ : ∃ (r : Fin 256) (d : Fin 512), j = ix2 r d := ⟨j 0, j 1, eq_ix2 j⟩
  have e : (win0_3.rect t).emb (ix2 r d) = (ix2 (row t r) d : S4096x512.Idx) := by
    refine funext fun x => Fin.ext ?_
    match x with
    | ⟨0, _⟩ => show win0_3.index t 0 * 256 + 1 * r.val = t.val * 256 + r.val; rw [h0]; omega
    | ⟨1, _⟩ => show win0_3.index t 1 * 512 + 1 * d.val = d.val; rw [h1]; omega
  rw [out3_apply, blk_apply, e]
  rfl

/-- The sixteen blocks tile an output. -/
theorem mem_rect (i : S4096x1024.Idx) : i ∈ (win0_4.rect (blkOf (i 0))).set := by
  obtain ⟨-, -, -, -, h0, h1⟩ := index_facts (blkOf (i 0))
  have l1 : (i 1 : Nat) < 1024 := (i 1).isLt
  refine (Rect.mem_set_unit ..).mpr fun a => ?_
  match a with
  | ⟨0, _⟩ => show win0_4.index (blkOf (i 0)) 0 * 256 ≤ (i 0 : Nat) ∧ (i 0 : Nat) < win0_4.index (blkOf (i 0)) 0 * 256 + 256
              rw [h0]; show (i 0).val / 256 * 256 ≤ (i 0 : Nat) ∧ (i 0 : Nat) < (i 0).val / 256 * 256 + 256; omega
  | ⟨1, _⟩ => show win0_4.index (blkOf (i 0)) 1 * 1024 ≤ (i 1 : Nat) ∧ (i 1 : Nat) < win0_4.index (blkOf (i 0)) 1 * 1024 + 1024
              rw [h1]; omega

theorem mem_headRect (i : S4096x512.Idx) : i ∈ (win0_3.rect (blkOf (i 0))).set := by
  obtain ⟨-, -, -, ⟨h0, h1⟩, -⟩ := index_facts (blkOf (i 0))
  have l1 : (i 1 : Nat) < 512 := (i 1).isLt
  refine (Rect.mem_set_unit ..).mpr fun a => ?_
  match a with
  | ⟨0, _⟩ => show win0_3.index (blkOf (i 0)) 0 * 256 ≤ (i 0 : Nat) ∧ (i 0 : Nat) < win0_3.index (blkOf (i 0)) 0 * 256 + 256
              rw [h0]; show (i 0).val / 256 * 256 ≤ (i 0 : Nat) ∧ (i 0 : Nat) < (i 0).val / 256 * 256 + 256; omega
  | ⟨1, _⟩ => show win0_3.index (blkOf (i 0)) 1 * 512 ≤ (i 1 : Nat) ∧ (i 1 : Nat) < win0_3.index (blkOf (i 0)) 1 * 512 + 512
              rw [h1]; omega

/-! So the seven output arrays end holding the projection's columns. -/

theorem arr3 (c : Dev nD) : (dats m 0 c).arrAt 3 cfg0.N = headCols (argH m c) (argGain m c) (argW m c) :=
  (dats m 0 c).arrAt_eq_of_cover 3 (headCols (argH m c) (argGain m c) (argW m c))
    (fun t _ => by show (cfg0.win 3).cut (grid0.coords t) ((dats m 0 c).after 3 t) = _; rw [after0_3]; exact funext fun (j : S256x512.Idx) => headBlock_eq m c t j)
    fun (i : S4096x512.Idx) => ⟨blkOf (i 0), flush0_3 _, by show i ∈ ((View.whole main_v4_0).slice (win0_3.rect (blkOf (i 0)))).set; rw [View.set_slice_whole]; exact mem_headRect i⟩

theorem arr4 (c : Dev nD) : (dats m 0 c).arrAt 4 cfg0.N = cols 512 (by decide) (argH m c) (argGain m c) (argW m c) :=
  (dats m 0 c).arrAt_eq_of_cover 4 (cols 512 (by decide) (argH m c) (argGain m c) (argW m c))
    (fun t _ => by show (cfg0.win 4).cut (grid0.coords t) ((dats m 0 c).after 4 t) = _; rw [after0_4]; exact funext fun (j : S256x1024.Idx) => block_eq m 512 (by decide) c t _ (fun r d => out4_apply _ _ _ r d) j)
    fun (i : S4096x1024.Idx) => ⟨blkOf (i 0), flush0_4 _, by show i ∈ ((View.whole main_v4_1).slice (win0_4.rect (blkOf (i 0)))).set; rw [View.set_slice_whole]; exact mem_rect i⟩

theorem arr5 (c : Dev nD) : (dats m 0 c).arrAt 5 cfg0.N = cols 1536 (by decide) (argH m c) (argGain m c) (argW m c) :=
  (dats m 0 c).arrAt_eq_of_cover 5 (cols 1536 (by decide) (argH m c) (argGain m c) (argW m c))
    (fun t _ => by show (cfg0.win 5).cut (grid0.coords t) ((dats m 0 c).after 5 t) = _; rw [after0_5]; exact funext fun (j : S256x1024.Idx) => block_eq m 1536 (by decide) c t _ (fun r d => out5_apply _ _ _ r d) j)
    fun (i : S4096x1024.Idx) => ⟨blkOf (i 0), flush0_5 _, by show i ∈ ((View.whole main_v4_2).slice (win0_5.rect (blkOf (i 0)))).set; rw [View.set_slice_whole]; exact mem_rect i⟩

theorem arr6 (c : Dev nD) : (dats m 0 c).arrAt 6 cfg0.N = cols 2560 (by decide) (argH m c) (argGain m c) (argW m c) :=
  (dats m 0 c).arrAt_eq_of_cover 6 (cols 2560 (by decide) (argH m c) (argGain m c) (argW m c))
    (fun t _ => by show (cfg0.win 6).cut (grid0.coords t) ((dats m 0 c).after 6 t) = _; rw [after0_6]; exact funext fun (j : S256x1024.Idx) => block_eq m 2560 (by decide) c t _ (fun r d => out6_apply _ _ _ r d) j)
    fun (i : S4096x1024.Idx) => ⟨blkOf (i 0), flush0_6 _, by show i ∈ ((View.whole main_v4_3).slice (win0_6.rect (blkOf (i 0)))).set; rw [View.set_slice_whole]; exact mem_rect i⟩

theorem arr7 (c : Dev nD) : (dats m 0 c).arrAt 7 cfg0.N = cols 3584 (by decide) (argH m c) (argGain m c) (argW m c) :=
  (dats m 0 c).arrAt_eq_of_cover 7 (cols 3584 (by decide) (argH m c) (argGain m c) (argW m c))
    (fun t _ => by show (cfg0.win 7).cut (grid0.coords t) ((dats m 0 c).after 7 t) = _; rw [after0_7]; exact funext fun (j : S256x1024.Idx) => block_eq m 3584 (by decide) c t _ (fun r d => out7_apply _ _ _ r d) j)
    fun (i : S4096x1024.Idx) => ⟨blkOf (i 0), flush0_7 _, by show i ∈ ((View.whole main_v4_4).slice (win0_7.rect (blkOf (i 0)))).set; rw [View.set_slice_whole]; exact mem_rect i⟩

theorem arr8 (c : Dev nD) : (dats m 0 c).arrAt 8 cfg0.N = cols 4608 (by decide) (argH m c) (argGain m c) (argW m c) :=
  (dats m 0 c).arrAt_eq_of_cover 8 (cols 4608 (by decide) (argH m c) (argGain m c) (argW m c))
    (fun t _ => by show (cfg0.win 8).cut (grid0.coords t) ((dats m 0 c).after 8 t) = _; rw [after0_8]; exact funext fun (j : S256x1024.Idx) => block_eq m 4608 (by decide) c t _ (fun r d => out8_apply _ _ _ r d) j)
    fun (i : S4096x1024.Idx) => ⟨blkOf (i 0), flush0_8 _, by show i ∈ ((View.whole main_v4_5).slice (win0_8.rect (blkOf (i 0)))).set; rw [View.set_slice_whole]; exact mem_rect i⟩

theorem arr9 (c : Dev nD) : (dats m 0 c).arrAt 9 cfg0.N = cols 5632 (by decide) (argH m c) (argGain m c) (argW m c) :=
  (dats m 0 c).arrAt_eq_of_cover 9 (cols 5632 (by decide) (argH m c) (argGain m c) (argW m c))
    (fun t _ => by show (cfg0.win 9).cut (grid0.coords t) ((dats m 0 c).after 9 t) = _; rw [after0_9]; exact funext fun (j : S256x1024.Idx) => block_eq m 5632 (by decide) c t _ (fun r d => out9_apply _ _ _ r d) j)
    fun (i : S4096x1024.Idx) => ⟨blkOf (i 0), flush0_9 _, by show i ∈ ((View.whole main_v4_6).slice (win0_9.rect (blkOf (i 0)))).set; rw [View.set_slice_whole]; exact mem_rect i⟩

/-! ## The claim -/

/-- The kernel's run, read: the seven results at the projection's columns, the arguments unchanged. -/
theorem run : θ_run defs (onTc (τ := τ) (main (F := Ideal))) ⟨m, fun _ => 0, ρ⟩ fun r => ∀ c : Dev nD,
      r.2.mem ((c : Thread nD τ).loc main_v4_0) = headCols (argH m c) (argGain m c) (argW m c)
      ∧ r.2.mem ((c : Thread nD τ).loc main_v4_1) = cols 512 (by decide) (argH m c) (argGain m c) (argW m c)
      ∧ r.2.mem ((c : Thread nD τ).loc main_v4_2) = cols 1536 (by decide) (argH m c) (argGain m c) (argW m c)
      ∧ r.2.mem ((c : Thread nD τ).loc main_v4_3) = cols 2560 (by decide) (argH m c) (argGain m c) (argW m c)
      ∧ r.2.mem ((c : Thread nD τ).loc main_v4_4) = cols 3584 (by decide) (argH m c) (argGain m c) (argW m c)
      ∧ r.2.mem ((c : Thread nD τ).loc main_v4_5) = cols 4608 (by decide) (argH m c) (argGain m c) (argW m c)
      ∧ r.2.mem ((c : Thread nD τ).loc main_v4_6) = cols 5632 (by decide) (argH m c) (argGain m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => by
      obtain ⟨h3, h4, h5, h6, h7, h8, h9, ha⟩ := h c
      exact ⟨h3.trans (arr3 m c), h4.trans (arr4 m c), h5.trans (arr5 m c), h6.trans (arr6 m c), h7.trans (arr7 m c), h8.trans (arr8 m c), h9.trans (arr9 m c), ha⟩)
    (Cert.Kernel7Ideal.Value.run_blocks m ρ)

section
variable (h : FVec Ideal S4096x1024 .f32) (g : FVec Ideal S1024 .f32) (w : FVec Ideal S1024x6656 .f32)
open Cert.Reference7Ideal.Read

/-- The reference's product at an index, -/
theorem ref_apply (r : Fin 4096) (f : Fin 6656) : val_main_v13 (F := Ideal) h g w (ix2 r f) = projected h g w r f := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  simp only [projected, dotp, nrm, rinv, zero_add]

/-- and its seven pieces. -/
theorem ref_head : val_main_v14 (F := Ideal) h g w = headCols h g w := by
  funext (i : S4096x512.Idx)
  obtain ⟨r, d, rfl⟩ : ∃ (r : Fin 4096) (d : Fin 512), i = ix2 r d := ⟨i 0, i 1, eq_ix2 i⟩
  unfold val_main_v14
  pointwise
  exact (ref_apply h g w r _).trans (congrArg (projected h g w r) (Fin.ext (Nat.zero_add _).symm))

theorem ref_piece (off : Nat) (hoff : off + 1024 ≤ 6656) (hs : Cert.Reference7Ideal.S4096x6656.Slices ![0, off] Cert.Reference7Ideal.S4096x1024) :
    extractStridedSlice Cert.Reference7Ideal.S4096x1024 ![0, off] (val_main_v13 (F := Ideal) h g w) hs = cols off hoff h g w := by
  funext (i : S4096x1024.Idx)
  obtain ⟨r, d, rfl⟩ : ∃ (r : Fin 4096) (d : Fin 1024), i = ix2 r d := ⟨i 0, i 1, eq_ix2 i⟩
  pointwise
  exact ref_apply h g w r _
end

/-- Kernel and reference compute the same seven pieces of the projection over the extended reals. -/
theorem algebraic : Cert.algebraic_Kernel7Ideal_Reference7Ideal := by
  intro m g m' g' _ hargs
  refine ⟨_, _, _, _, _, _, _, run m g, (θ_run Cert.Reference7Ideal.defs _ _).mono (fun r h c => ?_)
    (Cert.Reference7Ideal.Value.run (F := Ideal) m' g')⟩
  obtain ⟨h0, h1, h2, h3, h4, h5, h6, ha⟩ := h c
  rw [(hargs c).1, (hargs c).2.1, (hargs c).2.2] at h0 h1 h2 h3 h4 h5 h6
  refine ⟨h0.trans ?_, h1.trans ?_, h2.trans ?_, h3.trans ?_, h4.trans ?_, h5.trans ?_, h6.trans ?_, ha⟩
  · exact ref_head _ _ _
  all_goals clear h0 h1 h2 h3 h4 h5 h6 ha
  · exact ref_piece (argH m c) (argGain m c) (argW m c) 512 _ _
  · exact ref_piece (argH m c) (argGain m c) (argW m c) 1536 _ _
  · exact ref_piece (argH m c) (argGain m c) (argW m c) 2560 _ _
  · exact ref_piece (argH m c) (argGain m c) (argW m c) 3584 _ _
  · exact ref_piece (argH m c) (argGain m c) (argW m c) 4608 _ _
  · exact ref_piece (argH m c) (argGain m c) (argW m c) 5632 _ _

end Cert.InprojForward

end
-- ==== Proof.RowsWeightGrad.lean ====
/-
  The gradient of a weight of 1024 rows that is cut in four shards of 256 rows: one product per shard contracting the
  4096 rows of the input and of the cotangent, the shards laid one below the other. The region's output array is read
  off the generated run, the host lines around it are evaluated, and the result is met with the reference's one product
  index by index.
-/
module

public import proofs.«01_k».proof.Defs
public import proofs.«01_k».proof.Proof.Gen.Kernel8Ideal.Frame
public import proofs.«01_k».proof.Proof.Gen.Reference8Ideal.Run
public import Idealize.ShloMosaic.Lib.Pipeline.Value
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RowsWeightGrad

open Cert.Kernel8Ideal Cert.Kernel8Ideal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- A shard's product at an index: the contraction over the 4096 rows. -/
theorem pay_apply (x : Vec Ideal S4096x256 .bf16) (y : Vec Ideal S4096x1024 .bf16) (a : Fin 1) (d : Fin 256) (j : Fin 1024) :
    k0_pay1 x y (ix3 a d j) = ∑ k : Fin 4096, (x (ix2 k d) : EReal) * y (ix2 k j) := by
  pointwise [k0_pay1]

/-- The rows of the input and of the cotangent, as the region finds them. -/
abbrev inp (c : Dev nD) : Vec Ideal S4096x1024 .bf16 := V m c main_v0
abbrev cot (c : Dev nD) : Vec Ideal S4096x1024 .bf16 := V m c main_v1

/-- Number `j` of shard `s` among all 1024. -/
def place (s : Fin 4) (j : Fin 256) : Fin 1024 := ⟨256 * s.val + j.val, by omega⟩

/-- All four shards' products. -/
def grads (c : Dev nD) : Vec Ideal S4x256x1024 .f32 := fun i =>
  ∑ k : Fin 4096, (inp m c (ix2 k (place (i 0) (i 1))) : EReal) * cot m c (ix2 k (i 2))

theorem index_facts : ∀ t : Fin cfg0.N,
    (win0_0.index t 0 = 0 ∧ win0_0.index t 1 = t.val)
    ∧ (win0_1.index t 0 = 0 ∧ win0_1.index t 1 = 0)
    ∧ (win0_2.index t 0 = t.val ∧ win0_2.index t 1 = 0 ∧ win0_2.index t 2 = 0) :=
  (by decide +kernel : ∀ t : Fin grid0.N, _)

theorem lt4 (t : Fin cfg0.N) : t.val < 4 := lt_of_lt_of_eq t.isLt N_0

theorem iblk0 (c : Dev nD) (t : Fin cfg0.N) (k : Fin 4096) (j : Fin 256) :
    (iblk m c 0 t : Vec Ideal S4096x256 .bf16) (ix2 k j) = inp m c (ix2 k (place ⟨t.val, lt4 t⟩ j)) := by
  obtain ⟨⟨h0, h1⟩, -⟩ := index_facts t
  show inp m c _ = _
  refine congrArg (inp m c) (funext fun x => Fin.ext ?_)
  match x with
  | ⟨0, _⟩ => show win0_0.index t 0 * 4096 + 1 * k.val = k.val; rw [h0]; omega
  | ⟨1, _⟩ => show win0_0.index t 1 * 256 + 1 * j.val = 256 * t.val + j.val; rw [h1]; omega

theorem iblk1 (c : Dev nD) (t : Fin cfg0.N) (k : Fin 4096) (j : Fin 1024) :
    (iblk m c 1 t : Vec Ideal S4096x1024 .bf16) (ix2 k j) = cot m c (ix2 k j) := by
  obtain ⟨-, ⟨h0, h1⟩, -⟩ := index_facts t
  show cot m c _ = _
  refine congrArg (cot m c) (funext fun x => Fin.ext ?_)
  match x with
  | ⟨0, _⟩ => show win0_1.index t 0 * 4096 + 1 * k.val = k.val; rw [h0]; omega
  | ⟨1, _⟩ => show win0_1.index t 1 * 1024 + 1 * j.val = j.val; rw [h1]; omega

/-- What point `t` writes back is shard `t` of the products. -/
theorem flushed_eq (c : Dev nD) (t : Fin cfg0.N) :
    (dats m 0 c).flushed 2 t = (win0_2.blk t).view.read (Elt Ideal) (grads m c) := by
  show (cfg0.win 2).cut (grid0.coords t) ((dats m 0 c).after 2 t) = _
  rw [after0_2]
  unfold out0_2
  rw [View.canon_unit_zero hz3, View.ld_unit_zero hz2, View.ld_unit_zero hz2]
  obtain ⟨-, -, h0, h1, h2⟩ := index_facts t
  refine funext fun (i : S1x256x1024.Idx) => ?_
  obtain ⟨a, d, j, rfl⟩ : ∃ (a : Fin 1) (d : Fin 256) (j : Fin 1024), i = ix3 a d j := ⟨i 0, i 1, i 2, eq_ix3 i⟩
  refine (pay_apply (iblk m c 0 t) (iblk m c 1 t) a d j).trans ?_
  show _ = grads m c ((win0_2.rect t).emb (ix3 a d j))
  have e : (win0_2.rect t).emb (ix3 a d j) = (ix3 ⟨t.val, lt4 t⟩ d j : S4x256x1024.Idx) := by
    have ha : a.val = 0 := by omega
    refine funext fun x => Fin.ext ?_
    match x with
    | ⟨0, _⟩ => show win0_2.index t 0 * 1 + 1 * a.val = t.val; rw [h0, ha]; omega
    | ⟨1, _⟩ => show win0_2.index t 1 * 256 + 1 * d.val = d.val; rw [h1]; omega
    | ⟨2, _⟩ => show win0_2.index t 2 * 1024 + 1 * j.val = j.val; rw [h2]; omega
  rw [e]
  unfold grads
  refine Finset.sum_congr rfl fun k _ => ?_
  rw [iblk0, iblk1]
  rfl

/-- The four blocks tile the output. -/
theorem mem_blk (t : Fin cfg0.N) (i : S4x256x1024.Idx) :
    i ∈ ((cfg0.win 2).blk t).view.set ↔ t.val = (i 0 : Nat) := by
  show i ∈ ((View.whole main_v2).slice (win0_2.rect t)).set ↔ _
  rw [View.set_slice_whole, Rect.mem_set_unit]
  obtain ⟨-, -, h0, h1, h2⟩ := index_facts t
  have l1 : (i 1 : Nat) < 256 := (i 1).isLt
  have l2 : (i 2 : Nat) < 1024 := (i 2).isLt
  refine ⟨fun h => ?_, fun h a => ?_⟩
  · have h' : win0_2.index t 0 * 1 ≤ (i 0 : Nat) ∧ (i 0 : Nat) < win0_2.index t 0 * 1 + 1 := h 0
    rw [h0] at h'; omega
  · match a with
    | ⟨0, _⟩ => show win0_2.index t 0 * 1 ≤ (i 0 : Nat) ∧ (i 0 : Nat) < win0_2.index t 0 * 1 + 1
                rw [h0]; omega
    | ⟨1, _⟩ => show win0_2.index t 1 * 256 ≤ (i 1 : Nat) ∧ (i 1 : Nat) < win0_2.index t 1 * 256 + 256
                rw [h1]; omega
    | ⟨2, _⟩ => show win0_2.index t 2 * 1024 ≤ (i 2 : Nat) ∧ (i 2 : Nat) < win0_2.index t 2 * 1024 + 1024
                rw [h2]; omega

theorem cover (i : S4x256x1024.Idx) :
    ∃ t : Fin cfg0.N, (cfg0.win 2).flush t = true ∧ i ∈ ((cfg0.win 2).blk t).view.set := by
  have h0 : (i 0 : Nat) < 4 := (i 0).isLt
  have hN : cfg0.N = 4 := N_0
  refine ⟨⟨(i 0 : Nat), by omega⟩, flush0_2 _, ?_⟩
  rw [mem_blk]

/-- So the output array ends holding the four products. -/
theorem arr (c : Dev nD) : (dats m 0 c).arrAt 2 cfg0.N = grads m c :=
  (dats m 0 c).arrAt_eq_of_cover 2 (grads m c) (fun t _ => flushed_eq m c t) cover

/-! ## The host lines -/

/-- The two arguments. -/
abbrev argX (c : Dev nD) : FVec Ideal S4096x1024 .f32 := m ((c : Thread nD τ).loc main_arg0)
abbrev argCt (c : Dev nD) : FVec Ideal S4096x1024 .f32 := m ((c : Thread nD τ).loc main_arg1)

theorem inp_eq (c : Dev nD) : inp m c = truncf (F := Ideal) .bf16 (argX m c) bitsLt_bf16_f32 := by
  show StableHlo.after (List.flatten [hostOps0]) (fun b => m (c, b)) (Proc.devRef .tc main_v0) = _
  unfold hostOps0
  simp only [List.flatten_cons, List.flatten_nil, List.append_nil, List.cons_append, List.nil_append]
  after_results

theorem cot_eq (c : Dev nD) : cot m c = truncf (F := Ideal) .bf16 (argCt m c) bitsLt_bf16_f32 := by
  show StableHlo.after (List.flatten [hostOps0]) (fun b => m (c, b)) (Proc.devRef .tc main_v1) = _
  unfold hostOps0
  simp only [List.flatten_cons, List.flatten_nil, List.append_nil, List.cons_append, List.nil_append]
  after_results

/-- The result after the lines behind the region: the shards laid one below the other. -/
theorem tail_eq (c : Dev nD) : Pipeline.afterTail₀ cfgs (dats m) 0 (V0 m) [hostOps1] c main_v3
    = shapeCast S1024x1024 (grads m c) shapeCasts_S4x256x1024_S1024x1024 := by
  have h : Pipeline.withArrays (cfgs 0).spec c (V0 m c) (fun w => (dats m 0 c).arrAt w (cfgs 0).N) (Proc.devRef .tc main_v2) = grads m c :=
    (Pipeline.withArrays_arr spec0 launch0.win.arr_inj c (V0 m c) (fun w => (dats m 0 c).arrAt w cfg0.N) 2).trans (arr m c)
  unfold Pipeline.afterTail₀
  generalize Pipeline.withArrays (cfgs 0).spec c (V0 m c) (fun w => (dats m 0 c).arrAt w (cfgs 0).N) = W at h ⊢
  unfold hostOps1
  simp only [List.flatten_cons, List.flatten_nil, List.append_nil]
  after_results
  rw [h]
  rfl

/-- The same at an index: one contraction over the rows. -/
theorem tail_apply (c : Dev nD) (d : Fin 1024) (f : Fin 1024) :
    (Pipeline.afterTail₀ cfgs (dats m) 0 (V0 m) [hostOps1] c main_v3 : FVec Ideal S1024x1024 .f32) (ix2 d f)
      = ∑ k : Fin 4096, argX m c (ix2 k d) * argCt m c (ix2 k f) := by
  rw [tail_eq]
  pointwise [grads, place]
  rw [inp_eq, cot_eq]
  pointwise
  refine Finset.sum_congr (M := EReal) rfl fun k _ => ?_
  refine congrArg (fun z => argX m c (ix2 k z) * argCt m c (ix2 k f)) (Fin.ext ?_)
  dsimp only
  omega

/-- The kernel's run, read: the result at the contraction, the arguments unchanged. -/
theorem run : θ_run defs (onTc (τ := τ) (main (F := Ideal))) ⟨m, fun _ => 0, ρ⟩ fun r => ∀ c : Dev nD,
      r.2.mem ((c : Thread nD τ).loc main_v3) = (fun i => ∑ k : Fin 4096, argX m c (ix2 k (i 0)) * argCt m c (ix2 k (i 1)) : FVec Ideal S1024x1024 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v3 (Pipeline.mem_restRefs_of main_v3 (by decide) (by decide))).trans
        (funext fun (i : S1024x1024.Idx) => by
          obtain ⟨d, f, rfl⟩ : ∃ (d : Fin 1024) (f : Fin 1024), i = ix2 d f := ⟨i 0, i 1, eq_ix2 i⟩
          exact tail_apply m c d f),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The reference's result at an index: the same contraction, the factors exchanged. -/
theorem ref_eq (hT : Cert.Reference8Ideal.S1024x1024.Transposes [1, 0] Cert.Reference8Ideal.S1024x1024) (ct : FVec Ideal S4096x1024 .f32) (x : FVec Ideal S4096x1024 .f32) :
    transpose Cert.Reference8Ideal.S1024x1024 [1, 0] (Host.dotGeneral (F := Ideal) Cert.Reference8Ideal.dot_S4096x1024_S4096x1024_S1024x1024_0_0_1_1_n_n none ct x) hT
      = (fun i => ∑ k : Fin 4096, x (ix2 k (i 0)) * ct (ix2 k (i 1)) : FVec Ideal S1024x1024 .f32) := by
  funext i
  obtain ⟨d, f, rfl⟩ : ∃ (d : Fin 1024) (f : Fin 1024), i = ix2 d f := ⟨i 0, i 1, eq_ix2 i⟩
  pointwise
  exact Finset.sum_congr (M := EReal) rfl fun k _ => mul_comm _ _

/-- Kernel and reference compute the same function over the extended reals. -/
theorem algebraic : Cert.algebraic_Kernel8Ideal_Reference8Ideal := by
  intro m g m' g' _ hargs
  refine ⟨_, run m g, (θ_run Cert.Reference8Ideal.defs _ _).mono (fun r h c => ⟨?_, (h c).2⟩)
    (Cert.Reference8Ideal.Value.run (F := Ideal) m' g')⟩
  refine ((h c).1).trans ?_
  rw [(hargs c).1, (hargs c).2]
  exact ref_eq _ _ _

end Cert.RowsWeightGrad

end
-- ==== Proof.ColsWeightGrad.lean ====
/-
  The gradient of a weight of 512 rows and 1024 columns that is cut in four shards of 256 columns: one product per shard
  contracting the 4096 rows of the input and of the cotangent, the shards laid side by side. The region's output array
  is read off the generated run, the host lines around it are evaluated, and the result is met with the reference's one
  product index by index.
-/
module

public import proofs.«01_k».proof.Defs
public import proofs.«01_k».proof.Proof.Gen.Kernel9Ideal.Frame
public import proofs.«01_k».proof.Proof.Gen.Reference9Ideal.Run
public import Idealize.ShloMosaic.Lib.Pipeline.Value
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ColsWeightGrad

open Cert.Kernel9Ideal Cert.Kernel9Ideal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- A shard's product at an index: the contraction over the 4096 rows. -/
theorem pay_apply (x : Vec Ideal S4096x512 .bf16) (y : Vec Ideal S4096x256 .bf16) (a : Fin 1) (d : Fin 512) (j : Fin 256) :
    k0_pay1 x y (ix3 a d j) = ∑ k : Fin 4096, (x (ix2 k d) : EReal) * y (ix2 k j) := by
  pointwise [k0_pay1]

/-- The rows of the input and of the cotangent, as the region finds them. -/
abbrev inp (c : Dev nD) : Vec Ideal S4096x512 .bf16 := V m c main_v0
abbrev cot (c : Dev nD) : Vec Ideal S4096x1024 .bf16 := V m c main_v1

/-- Number `j` of shard `s` among all 1024. -/
def place (s : Fin 4) (j : Fin 256) : Fin 1024 := ⟨256 * s.val + j.val, by omega⟩

/-- All four shards' products. -/
def grads (c : Dev nD) : Vec Ideal S4x512x256 .f32 := fun i =>
  ∑ k : Fin 4096, (inp m c (ix2 k (i 1)) : EReal) * cot m c (ix2 k (place (i 0) (i 2)))

theorem index_facts : ∀ t : Fin cfg0.N,
    (win0_0.index t 0 = 0 ∧ win0_0.index t 1 = 0)
    ∧ (win0_1.index t 0 = 0 ∧ win0_1.index t 1 = t.val)
    ∧ (win0_2.index t 0 = t.val ∧ win0_2.index t 1 = 0 ∧ win0_2.index t 2 = 0) :=
  (by decide +kernel : ∀ t : Fin grid0.N, _)

theorem lt4 (t : Fin cfg0.N) : t.val < 4 := lt_of_lt_of_eq t.isLt N_0

theorem iblk0 (c : Dev nD) (t : Fin cfg0.N) (k : Fin 4096) (j : Fin 512) :
    (iblk m c 0 t : Vec Ideal S4096x512 .bf16) (ix2 k j) = inp m c (ix2 k j) := by
  obtain ⟨⟨h0, h1⟩, -⟩ := index_facts t
  show inp m c _ = _
  refine congrArg (inp m c) (funext fun x => Fin.ext ?_)
  match x with
  | ⟨0, _⟩ => show win0_0.index t 0 * 4096 + 1 * k.val = k.val; rw [h0]; omega
  | ⟨1, _⟩ => show win0_0.index t 1 * 512 + 1 * j.val = j.val; rw [h1]; omega

theorem iblk1 (c : Dev nD) (t : Fin cfg0.N) (k : Fin 4096) (j : Fin 256) :
    (iblk m c 1 t : Vec Ideal S4096x256 .bf16) (ix2 k j) = cot m c (ix2 k (place ⟨t.val, lt4 t⟩ j)) := by
  obtain ⟨-, ⟨h0, h1⟩, -⟩ := index_facts t
  show cot m c _ = _
  refine congrArg (cot m c) (funext fun x => Fin.ext ?_)
  match x with
  | ⟨0, _⟩ => show win0_1.index t 0 * 4096 + 1 * k.val = k.val; rw [h0]; omega
  | ⟨1, _⟩ => show win0_1.index t 1 * 256 + 1 * j.val = 256 * t.val + j.val; rw [h1]; omega

/-- What point `t` writes back is shard `t` of the products. -/
theorem flushed_eq (c : Dev nD) (t : Fin cfg0.N) :
    (dats m 0 c).flushed 2 t = (win0_2.blk t).view.read (Elt Ideal) (grads m c) := by
  show (cfg0.win 2).cut (grid0.coords t) ((dats m 0 c).after 2 t) = _
  rw [after0_2]
  unfold out0_2
  rw [View.canon_unit_zero hz3, View.ld_unit_zero hz2, View.ld_unit_zero hz2]
  obtain ⟨-, -, h0, h1, h2⟩ := index_facts t
  refine funext fun (i : S1x512x256.Idx) => ?_
  obtain ⟨a, d, j, rfl⟩ : ∃ (a : Fin 1) (d : Fin 512) (j : Fin 256), i = ix3 a d j := ⟨i 0, i 1, i 2, eq_ix3 i⟩
  refine (pay_apply (iblk m c 0 t) (iblk m c 1 t) a d j).trans ?_
  show _ = grads m c ((win0_2.rect t).emb (ix3 a d j))
  have e : (win0_2.rect t).emb (ix3 a d j) = (ix3 ⟨t.val, lt4 t⟩ d j : S4x512x256.Idx) := by
    have ha : a.val = 0 := by omega
    refine funext fun x => Fin.ext ?_
    match x with
    | ⟨0, _⟩ => show win0_2.index t 0 * 1 + 1 * a.val = t.val; rw [h0, ha]; omega
    | ⟨1, _⟩ => show win0_2.index t 1 * 512 + 1 * d.val = d.val; rw [h1]; omega
    | ⟨2, _⟩ => show win0_2.index t 2 * 256 + 1 * j.val = j.val; rw [h2]; omega
  rw [e]
  unfold grads
  refine Finset.sum_congr rfl fun k _ => ?_
  rw [iblk0, iblk1]
  rfl

/-- The four blocks tile the output. -/
theorem mem_blk (t : Fin cfg0.N) (i : S4x512x256.Idx) :
    i ∈ ((cfg0.win 2).blk t).view.set ↔ t.val = (i 0 : Nat) := by
  show i ∈ ((View.whole main_v2).slice (win0_2.rect t)).set ↔ _
  rw [View.set_slice_whole, Rect.mem_set_unit]
  obtain ⟨-, -, h0, h1, h2⟩ := index_facts t
  have l1 : (i 1 : Nat) < 512 := (i 1).isLt
  have l2 : (i 2 : Nat) < 256 := (i 2).isLt
  refine ⟨fun h => ?_, fun h a => ?_⟩
  · have h' : win0_2.index t 0 * 1 ≤ (i 0 : Nat) ∧ (i 0 : Nat) < win0_2.index t 0 * 1 + 1 := h 0
    rw [h0] at h'; omega
  · match a with
    | ⟨0, _⟩ => show win0_2.index t 0 * 1 ≤ (i 0 : Nat) ∧ (i 0 : Nat) < win0_2.index t 0 * 1 + 1
                rw [h0]; omega
    | ⟨1, _⟩ => show win0_2.index t 1 * 512 ≤ (i 1 : Nat) ∧ (i 1 : Nat) < win0_2.index t 1 * 512 + 512
                rw [h1]; omega
    | ⟨2, _⟩ => show win0_2.index t 2 * 256 ≤ (i 2 : Nat) ∧ (i 2 : Nat) < win0_2.index t 2 * 256 + 256
                rw [h2]; omega

theorem cover (i : S4x512x256.Idx) :
    ∃ t : Fin cfg0.N, (cfg0.win 2).flush t = true ∧ i ∈ ((cfg0.win 2).blk t).view.set := by
  have h0 : (i 0 : Nat) < 4 := (i 0).isLt
  have hN : cfg0.N = 4 := N_0
  refine ⟨⟨(i 0 : Nat), by omega⟩, flush0_2 _, ?_⟩
  rw [mem_blk]

/-- So the output array ends holding the four products. -/
theorem arr (c : Dev nD) : (dats m 0 c).arrAt 2 cfg0.N = grads m c :=
  (dats m 0 c).arrAt_eq_of_cover 2 (grads m c) (fun t _ => flushed_eq m c t) cover

/-! ## The host lines -/

/-- The two arguments. -/
abbrev argX (c : Dev nD) : FVec Ideal S4096x512 .f32 := m ((c : Thread nD τ).loc main_arg0)
abbrev argCt (c : Dev nD) : FVec Ideal S4096x1024 .f32 := m ((c : Thread nD τ).loc main_arg1)

theorem inp_eq (c : Dev nD) : inp m c = truncf (F := Ideal) .bf16 (argX m c) bitsLt_bf16_f32 := by
  show StableHlo.after (List.flatten [hostOps0]) (fun b => m (c, b)) (Proc.devRef .tc main_v0) = _
  unfold hostOps0
  simp only [List.flatten_cons, List.flatten_nil, List.append_nil, List.cons_append, List.nil_append]
  after_results

theorem cot_eq (c : Dev nD) : cot m c = truncf (F := Ideal) .bf16 (argCt m c) bitsLt_bf16_f32 := by
  show StableHlo.after (List.flatten [hostOps0]) (fun b => m (c, b)) (Proc.devRef .tc main_v1) = _
  unfold hostOps0
  simp only [List.flatten_cons, List.flatten_nil, List.append_nil, List.cons_append, List.nil_append]
  after_results

/-- The result after the lines behind the region: the shards laid side by side. -/
theorem tail_eq (c : Dev nD) : Pipeline.afterTail₀ cfgs (dats m) 0 (V0 m) [hostOps1] c main_v4
    = shapeCast S512x1024 (transpose S512x4x256 [1, 0, 2] (grads m c) transposes_S4x512x256_S512x4x256_1_0_2)
        shapeCasts_S512x4x256_S512x1024 := by
  have h : Pipeline.withArrays (cfgs 0).spec c (V0 m c) (fun w => (dats m 0 c).arrAt w (cfgs 0).N) (Proc.devRef .tc main_v2) = grads m c :=
    (Pipeline.withArrays_arr spec0 launch0.win.arr_inj c (V0 m c) (fun w => (dats m 0 c).arrAt w cfg0.N) 2).trans (arr m c)
  unfold Pipeline.afterTail₀
  generalize Pipeline.withArrays (cfgs 0).spec c (V0 m c) (fun w => (dats m 0 c).arrAt w (cfgs 0).N) = W at h ⊢
  unfold hostOps1
  simp only [List.flatten_cons, List.flatten_nil, List.append_nil]
  after_results
  rw [h]
  rfl

/-- The same at an index: one contraction over the rows. -/
theorem tail_apply (c : Dev nD) (d : Fin 512) (f : Fin 1024) :
    (Pipeline.afterTail₀ cfgs (dats m) 0 (V0 m) [hostOps1] c main_v4 : FVec Ideal S512x1024 .f32) (ix2 d f)
      = ∑ k : Fin 4096, argX m c (ix2 k d) * argCt m c (ix2 k f) := by
  rw [tail_eq]
  pointwise [grads, place]
  rw [inp_eq, cot_eq]
  pointwise
  refine Finset.sum_congr (M := EReal) rfl fun k _ => ?_
  refine congrArg (fun z => argX m c (ix2 k d) * argCt m c (ix2 k z)) (Fin.ext ?_)
  dsimp only
  omega

/-- The kernel's run, read: the result at the contraction, the arguments unchanged. -/
theorem run : θ_run defs (onTc (τ := τ) (main (F := Ideal))) ⟨m, fun _ => 0, ρ⟩ fun r => ∀ c : Dev nD,
      r.2.mem ((c : Thread nD τ).loc main_v4) = (fun i => ∑ k : Fin 4096, argX m c (ix2 k (i 0)) * argCt m c (ix2 k (i 1)) : FVec Ideal S512x1024 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨
      ((h c).2 main_v4 (Pipeline.mem_restRefs_of main_v4 (by decide) (by decide))).trans
        (funext fun (i : S512x1024.Idx) => by
          obtain ⟨d, f, rfl⟩ : ∃ (d : Fin 512) (f : Fin 1024), i = ix2 d f := ⟨i 0, i 1, eq_ix2 i⟩
          exact tail_apply m c d f),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The reference's result at an index: the same contraction, the factors exchanged. -/
theorem ref_eq (hT : Cert.Reference9Ideal.S1024x512.Transposes [1, 0] Cert.Reference9Ideal.S512x1024) (ct : FVec Ideal S4096x1024 .f32) (x : FVec Ideal S4096x512 .f32) :
    transpose Cert.Reference9Ideal.S512x1024 [1, 0] (Host.dotGeneral (F := Ideal) Cert.Reference9Ideal.dot_S4096x1024_S4096x512_S1024x512_0_0_1_1_n_n none ct x) hT
      = (fun i => ∑ k : Fin 4096, x (ix2 k (i 0)) * ct (ix2 k (i 1)) : FVec Ideal S512x1024 .f32) := by
  funext i
  obtain ⟨d, f, rfl⟩ : ∃ (d : Fin 512) (f : Fin 1024), i = ix2 d f := ⟨i 0, i 1, eq_ix2 i⟩
  pointwise
  exact Finset.sum_congr (M := EReal) rfl fun k _ => mul_comm _ _

/-- Kernel and reference compute the same function over the extended reals. -/
theorem algebraic : Cert.algebraic_Kernel9Ideal_Reference9Ideal := by
  intro m g m' g' _ hargs
  refine ⟨_, run m g, (θ_run Cert.Reference9Ideal.defs _ _).mono (fun r h c => ⟨?_, (h c).2⟩)
    (Cert.Reference9Ideal.Value.run (F := Ideal) m' g')⟩
  refine ((h c).1).trans ?_
  rw [(hargs c).1, (hargs c).2]
  exact ref_eq _ _ _

end Cert.ColsWeightGrad

end
-- ==== Proof.MergeForward.lean ====
/-
  The merge of the two mixers: sixteen blocks of 256 rows. The one branch is the activated rows in a gated linear unit
  whose weights come in four shards of 256 columns, the other the rows normalised head by head (eight heads of 128
  columns), gated and multiplied with a weight; the two are mixed by gates, multiplied with a last weight and added to
  the residual. What one block computes, what the output array holds, what the reference computes, and that the two
  agree.
-/
module

public import proofs.«01_k».proof.Defs
public import proofs.«01_k».proof.Proof.FfnMath
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeForward

/-! ## The function of one row -/

/-- The logistic gate. -/
def sgm (a : EReal) : EReal := Ideal.div 1 (1 + Ideal.exp (0 - a))

/-- The activation, in the hyperbolic tangent's form, with the constants as the programs spell them. -/
def gel (y : EReal) : EReal :=
  y * (Ideal.ofBits .f32 1056964608#32
    * (1 + Ideal.tanh (Ideal.ofBits .f32 1061962282#32 * (y + Ideal.ofBits .f32 1027024659#32 * (y * y * y)))))

/-- The gated linear unit of a row: the activated row against a column of the values, gated by the one of the gates. -/
def glu (y v t : Fin 512 → EReal) : EReal := (∑ i, gel (y i) * v i) * sgm (∑ i, gel (y i) * t i)

/-- The head of a column, and column `x` of head `s`. -/
def headOf (k : Fin 1024) : Fin 8 := ⟨k.val / 128, by omega⟩
def col (s : Fin 8) (x : Fin 128) : Fin 1024 := ⟨s.val * 128 + x.val, by omega⟩

/-- The reciprocal root of a head's mean square. -/
def hinv (o : Fin 1024 → EReal) (s : Fin 8) : EReal :=
  Ideal.rsqrt (Ideal.div (∑ x, o (col s x) * o (col s x)) (Ideal.ofBits .f32 1124073472#32) + Ideal.ofBits .f32 897988541#32)

/-- A row normalised head by head, scaled by the gain and gated. -/
def gated (o g q : Fin 1024 → EReal) (k : Fin 1024) : EReal := o k * hinv o (headOf k) * g k * (q k * sgm (q k))

/-- The two branches of a row, mixed by their gates. -/
def mixed (y : Fin 512 → EReal) (o g q a b : Fin 1024 → EReal) (v t : Fin 1024 → Fin 512 → EReal) (w : Fin 1024 → Fin 1024 → EReal)
    (k : Fin 1024) : EReal := sgm (a k) * glu y (v k) (t k) + sgm (b k) * ∑ x, gated o g q x * w x k

/-- The row: the residual and the mixed branches against the last weight. -/
def merged (h : Fin 1024 → EReal) (y : Fin 512 → EReal) (o g q a b : Fin 1024 → EReal) (v t : Fin 1024 → Fin 512 → EReal)
    (w wm : Fin 1024 → Fin 1024 → EReal) (d : Fin 1024) : EReal := h d + ∑ k, mixed y o g q a b v t w k * wm k d

open Cert.Kernel10Ideal Cert.Kernel10Ideal.Gen

variable (m : (ℓ : Loc nD τ sig) → Buf (Elt Ideal) ℓ) (ρ : Dev nD → PrngReg)

theorem hz2 : (![0, 0] : Fin 2 → Nat) = fun _ => 0 := funext fun a => by fin_cases a <;> rfl

/-- Where column `f` of all lies: its shard, and its place there. -/
def shardOf (f : Fin 1024) : Fin 4 := ⟨f.val / 256, by omega⟩
def placeOf (f : Fin 1024) : Fin 256 := ⟨f.val % 256, by omega⟩

theorem shardOf_eq {f : Fin 1024} {s : Fin 4} {j : Fin 256} (h : 256 * s.val + j.val = f.val) : s = shardOf f :=
  Fin.ext (by show s.val = f.val / 256; omega)
theorem placeOf_eq {f : Fin 1024} {s : Fin 4} {j : Fin 256} (h : 256 * s.val + j.val = f.val) : j = placeOf f :=
  Fin.ext (by show j.val = f.val % 256; omega)

/-- The activated rows of a block. -/
theorem act_apply (y : Vec Ideal S256x512 .f32) (r : Fin 256) (i : Fin 512) : k0_pay3 y (ix2 r i) = gel (y (ix2 r i)) := by
  pointwise [k0_pay3]
  unfold gel
  simp only [mul_assoc, mul_left_comm (y (ix2 r i) : EReal) (Ideal.ofBits .f32 1056964608#32)]

/-- A block's gated linear unit at an index: the shard's columns. -/
theorem glu_apply (y : Vec Ideal S256x512 .f32) (wv wt : Vec Ideal S4x512x256 .bf16) (r : Fin 256) (f : Fin 1024) :
    k0_pay7 (k0_pay3 y) (k0_pay4 y (View.ld wv r0_3)) (k0_pay5 y (View.ld wv r0_4)) (k0_pay6 y (View.ld wv r0_5)) (View.ld wv r0_6)
        (View.ld wt r0_3) (View.ld wt r0_4) (View.ld wt r0_5) (View.ld wt r0_6) (ix2 r f)
      = glu (fun i => y (ix2 r i)) (fun i => wv (ix3 (shardOf f) i (placeOf f))) (fun i => wt (ix3 (shardOf f) i (placeOf f))) := by
  have at_eq : ∀ (s : Fin 4) (j : Fin 256), 256 * s.val + j.val = f.val →
      glu (fun i => y (ix2 r i)) (fun i => wv (ix3 s i j)) (fun i => wt (ix3 s i j))
        = glu (fun i => y (ix2 r i)) (fun i => wv (ix3 (shardOf f) i (placeOf f))) (fun i => wt (ix3 (shardOf f) i (placeOf f))) :=
    fun s j h => by rw [shardOf_eq h, placeOf_eq h]
  unfold k0_pay4 k0_pay5 k0_pay6
  pointwise [k0_pay7]
  simp only [act_apply, zero_add]
  simp only [glu, sgm] at at_eq ⊢
  by_cases h0 : f.val < 256
  · simp only [dif_pos h0]
    exact at_eq 0 ⟨f.val, h0⟩ (by show 256 * 0 + f.val = f.val; omega)
  simp only [dif_neg h0]
  by_cases h1 : f.val - 256 < 256
  · simp only [dif_pos h1]
    exact at_eq 1 ⟨f.val - 256, h1⟩ (by show 256 * 1 + (f.val - 256) = f.val; omega)
  simp only [dif_neg h1]
  by_cases h2 : f.val - 256 - 256 < 256
  · simp only [dif_pos h2]
    exact at_eq 2 ⟨f.val - 256 - 256, h2⟩ (by show 256 * 2 + (f.val - 256 - 256) = f.val; omega)
  simp only [dif_neg h2]
  exact at_eq 3 ⟨f.val - 256 - 256 - 256, by omega⟩ (by show 256 * 3 + (f.val - 256 - 256 - 256) = f.val; omega)

/-- A block's row normalised head by head and gated, at an index. -/
theorem gated_apply (o q : Vec Ideal S256x1024 .f32) (g : Vec Ideal S1x1024 .f32) (r : Fin 256) (f : Fin 1024) :
    k0_pay17 o q (k0_pay2 g) (k0_pay10 (k0_pay8 o) (k0_pay9 o)) (k0_pay11 o) (k0_pay12 o) (k0_pay13 o) (k0_pay14 o) (k0_pay15 o)
        (k0_pay16 o) (ix2 r f)
      = gated (fun k => o (ix2 r k)) (fun k => g (ix2 0 k)) (fun k => q (ix2 r k)) f := by
  have at_eq : ∀ (b : Nat) (hb : b + 128 ≤ 1024) (x : Fin 128), b % 128 = 0 → b + x.val = f.val →
      o (ix2 r ⟨b + x.val, by omega⟩) * Ideal.rsqrt (Ideal.div (∑ z : Fin 128, o (ix2 r ⟨b + z.val, by omega⟩) * o (ix2 r ⟨b + z.val, by omega⟩))
          (Ideal.ofBits .f32 1124073472#32) + Ideal.ofBits .f32 897988541#32)
        = o (ix2 r f) * hinv (fun k => o (ix2 r k)) (headOf f) := fun b hb x h0 h => by
    have e : ∀ z : Fin 128, (⟨b + z.val, by omega⟩ : Fin 1024) = col (headOf f) z := fun z =>
      Fin.ext (by show b + z.val = f.val / 128 * 128 + z.val; omega)
    have e' : col (headOf f) x = f := (e x).symm.trans (Fin.ext h)
    simp only [e, e', hinv]
  pointwise [k0_pay17, k0_pay2, k0_pay8, k0_pay9, k0_pay10, k0_pay11, k0_pay12, k0_pay13, k0_pay14, k0_pay15, k0_pay16]
  simp only [gated, sgm]
  refine congrArg (fun z : EReal => z * g (ix2 0 f) * (q (ix2 r f) * Ideal.div 1 (1 + Ideal.exp (0 - q (ix2 r f))))) ?_
  by_cases h0 : f.val < 128
  · rw [dif_pos h0]
    simpa only [Nat.zero_add, Fin.eta] using at_eq 0 (by decide) ⟨f.val, h0⟩ rfl (Nat.zero_add _)
  rw [dif_neg h0]
  by_cases h1 : f.val - 128 < 128
  · rw [dif_pos h1]
    exact at_eq 128 (by decide) ⟨f.val - 128, h1⟩ rfl (by dsimp only; omega)
  rw [dif_neg h1]
  by_cases h2 : f.val - 128 - 128 < 128
  · rw [dif_pos h2]
    exact at_eq 256 (by decide) ⟨f.val - 128 - 128, h2⟩ rfl (by dsimp only; omega)
  rw [dif_neg h2]
  by_cases h3 : f.val - 128 - 128 - 128 < 128
  · rw [dif_pos h3]
    exact at_eq 384 (by decide) ⟨f.val - 128 - 128 - 128, h3⟩ rfl (by dsimp only; omega)
  rw [dif_neg h3]
  by_cases h4 : f.val - 128 - 128 - 128 - 128 < 128
  · rw [dif_pos h4]
    exact at_eq 512 (by decide) ⟨f.val - 128 - 128 - 128 - 128, h4⟩ rfl (by dsimp only; omega)
  rw [dif_neg h4]
  by_cases h5 : f.val - 128 - 128 - 128 - 128 - 128 < 128
  · rw [dif_pos h5]
    exact at_eq 640 (by decide) ⟨f.val - 128 - 128 - 128 - 128 - 128, h5⟩ rfl (by dsimp only; omega)
  rw [dif_neg h5]
  by_cases h6 : f.val - 128 - 128 - 128 - 128 - 128 - 128 < 128
  · rw [dif_pos h6]
    exact at_eq 768 (by decide) ⟨f.val - 128 - 128 - 128 - 128 - 128 - 128, h6⟩ rfl (by dsimp only; omega)
  rw [dif_neg h6]
  exact at_eq 896 (by decide) ⟨f.val - 128 - 128 - 128 - 128 - 128 - 128 - 128, by omega⟩ rfl (by dsimp only; omega)

/-- What the body leaves in the output's buffer, at an index: the merged row. -/
theorem out_apply (h : Vec Ideal S256x1024 .f32) (y : Vec Ideal S256x512 .f32) (o q a b : Vec Ideal S256x1024 .f32) (wv wt : Vec Ideal S4x512x256 .bf16)
    (g : Vec Ideal S1x1024 .f32) (w wm : Vec Ideal S1024x1024 .bf16) (r : Fin 256) (d : Fin 1024) :
    out0_11 h y o q a b wv wt g w wm (ix2 r d)
      = merged (fun k => h (ix2 r k)) (fun k => y (ix2 r k)) (fun k => o (ix2 r k)) (fun k => g (ix2 0 k)) (fun k => q (ix2 r k))
        (fun k => a (ix2 r k)) (fun k => b (ix2 r k)) (fun f k => wv (ix3 (shardOf f) k (placeOf f))) (fun f k => wt (ix3 (shardOf f) k (placeOf f)))
        (fun k f => w (ix2 k f)) (fun k f => wm (ix2 k f)) d := by
  have e0 : View.ld h r0_1 = h := View.ld_unit_zero hz2 _ _
  have e1 : View.ld y r0_0 = y := View.ld_unit_zero hz2 _ _
  have e2 : View.ld o r0_1 = o := View.ld_unit_zero hz2 _ _
  have e3 : View.ld q r0_1 = q := View.ld_unit_zero hz2 _ _
  have e4 : View.ld a r0_1 = a := View.ld_unit_zero hz2 _ _
  have e5 : View.ld b r0_1 = b := View.ld_unit_zero hz2 _ _
  have e8 : View.ld g r0_2 = g := View.ld_unit_zero hz2 _ _
  have e9 : View.ld w r0_7 = w := View.ld_unit_zero hz2 _ _
  have e10 : View.ld wm r0_7 = wm := View.ld_unit_zero hz2 _ _
  unfold out0_11
  rw [View.canon_unit_zero hz2, e0, e1, e2, e3, e4, e5, e8, e9, e10]
  pointwise [k0_pay1, k0_pay18]
  simp only [glu_apply, gated_apply, zero_add, merged, mixed, sgm]

/-! ## The arrays and the host lines before the region -/

/-- The arrays the region works on: the residual, the two mixers' rows, the three gates, the two sharded weights, the gain, the
    two weights. -/
abbrev resid (c : Dev nD) : FVec Ideal S4096x1024 .f32 := V m c main_arg0
abbrev rowsY (c : Dev nD) : FVec Ideal S4096x512 .f32 := V m c main_arg1
abbrev rowsO (c : Dev nD) : FVec Ideal S4096x1024 .f32 := V m c main_arg2
abbrev rowsQ (c : Dev nD) : FVec Ideal S4096x1024 .f32 := V m c main_arg3
abbrev rowsA (c : Dev nD) : FVec Ideal S4096x1024 .f32 := V m c main_arg4
abbrev rowsB (c : Dev nD) : FVec Ideal S4096x1024 .f32 := V m c main_arg5
abbrev val (c : Dev nD) : FVec Ideal S4x512x256 .bf16 := V m c main_v2
abbrev gate (c : Dev nD) : FVec Ideal S4x512x256 .bf16 := V m c main_v5
abbrev gain (c : Dev nD) : FVec Ideal S1x1024 .f32 := V m c main_v6
abbrev wout (c : Dev nD) : FVec Ideal S1024x1024 .bf16 := V m c main_v7
abbrev wmrg (c : Dev nD) : FVec Ideal S1024x1024 .bf16 := V m c main_v8

/-- The arguments. -/
abbrev argH (c : Dev nD) : FVec Ideal S4096x1024 .f32 := m ((c : Thread nD τ).loc main_arg0)
abbrev argY (c : Dev nD) : FVec Ideal S4096x512 .f32 := m ((c : Thread nD τ).loc main_arg1)
abbrev argO (c : Dev nD) : FVec Ideal S4096x1024 .f32 := m ((c : Thread nD τ).loc main_arg2)
abbrev argQ (c : Dev nD) : FVec Ideal S4096x1024 .f32 := m ((c : Thread nD τ).loc main_arg3)
abbrev argA (c : Dev nD) : FVec Ideal S4096x1024 .f32 := m ((c : Thread nD τ).loc main_arg4)
abbrev argB (c : Dev nD) : FVec Ideal S4096x1024 .f32 := m ((c : Thread nD τ).loc main_arg5)
abbrev argVal (c : Dev nD) : FVec Ideal S512x1024 .f32 := m ((c : Thread nD τ).loc main_arg6)
abbrev argGate (c : Dev nD) : FVec Ideal S512x1024 .f32 := m ((c : Thread nD τ).loc main_arg7)
abbrev argGain (c : Dev nD) : FVec Ideal S1024 .f32 := m ((c : Thread nD τ).loc main_arg8)
abbrev argOut (c : Dev nD) : FVec Ideal S1024x1024 .f32 := m ((c : Thread nD τ).loc main_arg9)
abbrev argMrg (c : Dev nD) : FVec Ideal S1024x1024 .f32 := m ((c : Thread nD τ).loc main_arg10)

/-- A weight cut in four shards of 256 columns. -/
def sharded (w : FVec Ideal S512x1024 .f32) : FVec Ideal S4x512x256 .bf16 :=
  truncf (F := Ideal) .bf16 (transpose S4x512x256 [1, 0, 2] (shapeCast S512x4x256 w shapeCasts_S512x1024_S512x4x256)
    transposes_S512x4x256_S4x512x256_1_0_2) bitsLt_bf16_f32

theorem sharded_apply (w : FVec Ideal S512x1024 .f32) (k : Fin 512) (f : Fin 1024) :
    sharded w (ix3 (shardOf f) k (placeOf f)) = w (ix2 k f) := by
  pointwise [sharded, shardOf, placeOf]

theorem val_eq (c : Dev nD) : val m c = sharded (argVal m c) := by
  show StableHlo.after (List.flatten [hostOps0]) (fun b => m (c, b)) (Proc.devRef .tc main_v2) = _
  unfold hostOps0
  simp only [List.flatten_cons, List.flatten_nil, List.append_nil, List.cons_append, List.nil_append]
  after_results
  rfl

theorem gate_eq (c : Dev nD) : gate m c = sharded (argGate m c) := by
  show StableHlo.after (List.flatten [hostOps0]) (fun b => m (c, b)) (Proc.devRef .tc main_v5) = _
  unfold hostOps0
  simp only [List.flatten_cons, List.flatten_nil, List.append_nil, List.cons_append, List.nil_append]
  after_results
  rfl

theorem gain_eq (c : Dev nD) : gain m c = broadcastInDim S1x1024 ![1] bcast_S1024_S1x1024_1 (argGain m c) := by
  show StableHlo.after (List.flatten [hostOps0]) (fun b => m (c, b)) (Proc.devRef .tc main_v6) = _
  unfold hostOps0
  simp only [List.flatten_cons, List.flatten_nil, List.append_nil, List.cons_append, List.nil_append]
  after_results

theorem wout_eq (c : Dev nD) : wout m c = truncf (F := Ideal) .bf16 (argOut m c) bitsLt_bf16_f32 := by
  show StableHlo.after (List.flatten [hostOps0]) (fun b => m (c, b)) (Proc.devRef .tc main_v7) = _
  unfold hostOps0
  simp only [List.flatten_cons, List.flatten_nil, List.append_nil, List.cons_append, List.nil_append]
  after_results

theorem wmrg_eq (c : Dev nD) : wmrg m c = truncf (F := Ideal) .bf16 (argMrg m c) bitsLt_bf16_f32 := by
  show StableHlo.after (List.flatten [hostOps0]) (fun b => m (c, b)) (Proc.devRef .tc main_v8) = _
  unfold hostOps0
  simp only [List.flatten_cons, List.flatten_nil, List.append_nil, List.cons_append, List.nil_append]
  after_results

/-! ## The output array -/

/-- What the output array is shown to hold. -/
def result (c : Dev nD) : FVec Ideal S4096x1024 .f32 := fun i =>
  merged (fun k => resid m c (ix2 (i 0) k)) (fun k => rowsY m c (ix2 (i 0) k)) (fun k => rowsO m c (ix2 (i 0) k)) (fun k => gain m c (ix2 0 k))
    (fun k => rowsQ m c (ix2 (i 0) k)) (fun k => rowsA m c (ix2 (i 0) k)) (fun k => rowsB m c (ix2 (i 0) k))
    (fun f k => val m c (ix3 (shardOf f) k (placeOf f))) (fun f k => gate m c (ix3 (shardOf f) k (placeOf f)))
    (fun k f => wout m c (ix2 k f)) (fun k f => wmrg m c (ix2 k f)) (i 1)

theorem index_facts : ∀ t : Fin cfg0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = t.val ∧ win0_11.index t 1 = 0) :=
  (by decide +kernel : ∀ t : Fin grid0.N, _)

theorem lt16 (t : Fin cfg0.N) : t.val < 16 := lt_of_lt_of_eq t.isLt N_0

/-- Row `r` of block `t` among all rows. -/
def row (t : Fin cfg0.N) (r : Fin 256) : Fin 4096 := ⟨t.val * 256 + r.val, by have := lt16 t; omega⟩

/-- Point `t` reads the rows of block `t` of the six row arrays, -/
theorem iblk0 (c : Dev nD) (t : Fin cfg0.N) (r : Fin 256) (k : Fin 1024) :
    (iblk m c 0 t : Vec Ideal S256x1024 .f32) (ix2 r k) = resid m c (ix2 (row t r) k) := by
  obtain ⟨⟨h0, h1⟩, -⟩ := index_facts t
  show resid m c _ = _
  refine congrArg (resid m c) (funext fun x => Fin.ext ?_)
  match x with
  | ⟨0, _⟩ => show win0_0.index t 0 * 256 + 1 * r.val = t.val * 256 + r.val; rw [h0]; omega
  | ⟨1, _⟩ => show win0_0.index t 1 * 1024 + 1 * k.val = k.val; rw [h1]; omega

theorem iblk1 (c : Dev nD) (t : Fin cfg0.N) (r : Fin 256) (k : Fin 512) :
    (iblk m c 1 t : Vec Ideal S256x512 .f32) (ix2 r k) = rowsY m c (ix2 (row t r) k) := by
  obtain ⟨-, ⟨h0, h1⟩, -⟩ := index_facts t
  show rowsY m c _ = _
  refine congrArg (rowsY m c) (funext fun x => Fin.ext ?_)
  match x with
  | ⟨0, _⟩ => show win0_1.index t 0 * 256 + 1 * r.val = t.val * 256 + r.val; rw [h0]; omega
  | ⟨1, _⟩ => show win0_1.index t 1 * 512 + 1 * k.val = k.val; rw [h1]; omega

theorem iblk2 (c : Dev nD) (t : Fin cfg0.N) (r : Fin 256) (k : Fin 1024) :
    (iblk m c 2 t : Vec Ideal S256x1024 .f32) (ix2 r k) = rowsO m c (ix2 (row t r) k) := by
  obtain ⟨-, -, ⟨h0, h1⟩, -⟩ := index_facts t
  show rowsO m c _ = _
  refine congrArg (rowsO m c) (funext fun x => Fin.ext ?_)
  match x with
  | ⟨0, _⟩ => show win0_2.index t 0 * 256 + 1 * r.val = t.val * 256 + r.val; rw [h0]; omega
  | ⟨1, _⟩ => show win0_2.index t 1 * 1024 + 1 * k.val = k.val; rw [h1]; omega

theorem iblk3 (c : Dev nD) (t : Fin cfg0.N) (r : Fin 256) (k : Fin 1024) :
    (iblk m c 3 t : Vec Ideal S256x1024 .f32) (ix2 r k) = rowsQ m c (ix2 (row t r) k) := by
  obtain ⟨-, -, -, ⟨h0, h1⟩, -⟩ := index_facts t
  show rowsQ m c _ = _
  refine congrArg (rowsQ m c) (funext fun x => Fin.ext ?_)
  match x with
  | ⟨0, _⟩ => show win0_3.index t 0 * 256 + 1 * r.val = t.val * 256 + r.val; rw [h0]; omega
  | ⟨1, _⟩ => show win0_3.index t 1 * 1024 + 1 * k.val = k.val; rw [h1]; omega

theorem iblk4 (c : Dev nD) (t : Fin cfg0.N) (r : Fin 256) (k : Fin 1024) :
    (iblk m c 4 t : Vec Ideal S256x1024 .f32) (ix2 r k) = rowsA m c (ix2 (row t r) k) := by
  obtain ⟨-, -, -, -, ⟨h0, h1⟩, -⟩ := index_facts t
  show rowsA m c _ = _
  refine congrArg (rowsA m c) (funext fun x => Fin.ext ?_)
  match x with
  | ⟨0, _⟩ => show win0_4.index t 0 * 256 + 1 * r.val = t.val * 256 + r.val; rw [h0]; omega
  | ⟨1, _⟩ => show win0_4.index t 1 * 1024 + 1 * k.val = k.val; rw [h1]; omega

theorem iblk5 (c : Dev nD) (t : Fin cfg0.N) (r : Fin 256) (k : Fin 1024) :
    (iblk m c 5 t : Vec Ideal S256x1024 .f32) (ix2 r k) = rowsB m c (ix2 (row t r) k) := by
  obtain ⟨-, -, -, -, -, ⟨h0, h1⟩, -⟩ := index_facts t
  show rowsB m c _ = _
  refine congrArg (rowsB m c) (funext fun x => Fin.ext ?_)
  match x with
  | ⟨0, _⟩ => show win0_5.index t 0 * 256 + 1 * r.val = t.val * 256 + r.val; rw [h0]; omega
  | ⟨1, _⟩ => show win0_5.index t 1 * 1024 + 1 * k.val = k.val; rw [h1]; omega

/-- and the weights and the gain whole. -/
theorem iblk6 (c : Dev nD) (t : Fin cfg0.N) : (iblk m c 6 t : Vec Ideal S4x512x256 .bf16) = val m c := by
  obtain ⟨-, -, -, -, -, -, ⟨h0, h1, h2⟩, -⟩ := index_facts t
  funext (j : S4x512x256.Idx)
  show val m c _ = _
  refine congrArg (val m c) (funext fun x => Fin.ext ?_)
  match x with
  | ⟨0, _⟩ => show win0_6.index t 0 * 4 + 1 * (j 0).val = (j 0).val; rw [h0]; omega
  | ⟨1, _⟩ => show win0_6.index t 1 * 512 + 1 * (j 1).val = (j 1).val; rw [h1]; omega
  | ⟨2, _⟩ => show win0_6.index t 2 * 256 + 1 * (j 2).val = (j 2).val; rw [h2]; omega

theorem iblk7 (c : Dev nD) (t : Fin cfg0.N) : (iblk m c 7 t : Vec Ideal S4x512x256 .bf16) = gate m c := by
  obtain ⟨-, -, -, -, -, -, -, ⟨h0, h1, h2⟩, -⟩ := index_facts t
  funext (j : S4x512x256.Idx)
  show gate m c _ = _
  refine congrArg (gate m c) (funext fun x => Fin.ext ?_)
  match x with
  | ⟨0, _⟩ => show win0_7.index t 0 * 4 + 1 * (j 0).val = (j 0).val; rw [h0]; omega
  | ⟨1, _⟩ => show win0_7.index t 1 * 512 + 1 * (j 1).val = (j 1).val; rw [h1]; omega
  | ⟨2, _⟩ => show win0_7.index t 2 * 256 + 1 * (j 2).val = (j 2).val; rw [h2]; omega

theorem iblk8 (c : Dev nD) (t : Fin cfg0.N) : (iblk m c 8 t : Vec Ideal S1x1024 .f32) = gain m c := by
  obtain ⟨-, -, -, -, -, -, -, -, ⟨h0, h1⟩, -⟩ := index_facts t
  funext (j : S1x1024.Idx)
  show gain m c _ = _
  refine congrArg (gain m c) (funext fun x => Fin.ext ?_)
  match x with
  | ⟨0, _⟩ => show win0_8.index t 0 * 1 + 1 * (j 0).val = (j 0).val; rw [h0]; omega
  | ⟨1, _⟩ => show win0_8.index t 1 * 1024 + 1 * (j 1).val = (j 1).val; rw [h1]; omega

theorem iblk9 (c : Dev nD) (t : Fin cfg0.N) : (iblk m c 9 t : Vec Ideal S1024x1024 .bf16) = wout m c := by
  obtain ⟨-, -, -, -, -, -, -, -, -, ⟨h0, h1⟩, -⟩ := index_facts t
  funext (j : S1024x1024.Idx)
  show wout m c _ = _
  refine congrArg (wout m c) (funext fun x => Fin.ext ?_)
  match x with
  | ⟨0, _⟩ => show win0_9.index t 0 * 1024 + 1 * (j 0).val = (j 0).val; rw [h0]; omega
  | ⟨1, _⟩ => show win0_9.index t 1 * 1024 + 1 * (j 1).val = (j 1).val; rw [h1]; omega

theorem iblk10 (c : Dev nD) (t : Fin cfg0.N) : (iblk m c 10 t : Vec Ideal S1024x1024 .bf16) = wmrg m c := by
  obtain ⟨-, -, -, -, -, -, -, -, -, -, ⟨h0, h1⟩, -⟩ := index_facts t
  funext (j : S1024x1024.Idx)
  show wmrg m c _ = _
  refine congrArg (wmrg m c) (funext fun x => Fin.ext ?_)
  match x with
  | ⟨0, _⟩ => show win0_10.index t 0 * 1024 + 1 * (j 0).val = (j 0).val; rw [h0]; omega
  | ⟨1, _⟩ => show win0_10.index t 1 * 1024 + 1 * (j 1).val = (j 1).val; rw [h1]; omega

/-- What point `t` writes back is block `t` of the merged rows. -/
theorem flushed_eq (c : Dev nD) (t : Fin cfg0.N) :
    (dats m 0 c).flushed 11 t = (win0_11.blk t).view.read (Elt Ideal) (result m c) := by
  show (cfg0.win 11).cut (grid0.coords t) ((dats m 0 c).after 11 t) = _
  rw [after0_11]
  obtain ⟨-, -, -, -, -, -, -, -, -, -, -, ⟨h0, h1⟩⟩ := index_facts t
  refine funext fun (j : S256x1024.Idx) => ?_
  obtain ⟨r, d, rfl⟩ : ∃ (r : Fin 256) (d : Fin 1024), j = ix2 r d := ⟨j 0, j 1, eq_ix2 j⟩
  refine (out_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) r d).trans ?_
  rw [iblk6, iblk7, iblk8, iblk9, iblk10]
  simp only [iblk0, iblk1, iblk2, iblk3, iblk4, iblk5]
  show _ = result m c ((win0_11.rect t).emb (ix2 r d))
  have e : (win0_11.rect t).emb (ix2 r d) = (ix2 (row t r) d : S4096x1024.Idx) := by
    refine funext fun x => Fin.ext ?_
    match x with
    | ⟨0, _⟩ => show win0_11.index t 0 * 256 + 1 * r.val = t.val * 256 + r.val; rw [h0]; omega
    | ⟨1, _⟩ => show win0_11.index t 1 * 1024 + 1 * d.val = d.val; rw [h1]; omega
  rw [e]
  rfl

/-- The sixteen blocks tile the output. -/
theorem mem_blk (t : Fin cfg0.N) (i : S4096x1024.Idx) :
    i ∈ ((cfg0.win 11).blk t).view.set ↔ t.val * 256 ≤ (i 0 : Nat) ∧ (i 0 : Nat) < t.val * 256 + 256 := by
  show i ∈ ((View.whole main_v9).slice (win0_11.rect t)).set ↔ _
  rw [View.set_slice_whole, Rect.mem_set_unit]
  obtain ⟨-, -, -, -, -, -, -, -, -, -, -, ⟨h0, h1⟩⟩ := index_facts t
  have l1 : (i 1 : Nat) < 1024 := (i 1).isLt
  refine ⟨fun h => ?_, fun h a => ?_⟩
  · have h' : win0_11.index t 0 * 256 ≤ (i 0 : Nat) ∧ (i 0 : Nat) < win0_11.index t 0 * 256 + 256 := h 0
    rw [h0] at h'; exact h'
  · match a with
    | ⟨0, _⟩ => show win0_11.index t 0 * 256 ≤ (i 0 : Nat) ∧ (i 0 : Nat) < win0_11.index t 0 * 256 + 256
                rw [h0]; exact h
    | ⟨1, _⟩ => show win0_11.index t 1 * 1024 ≤ (i 1 : Nat) ∧ (i 1 : Nat) < win0_11.index t 1 * 1024 + 1024
                rw [h1, Nat.zero_mul, Nat.zero_add]; exact ⟨Nat.zero_le _, l1⟩

theorem cover (i : S4096x1024.Idx) :
    ∃ t : Fin cfg0.N, (cfg0.win 11).flush t = true ∧ i ∈ ((cfg0.win 11).blk t).view.set := by
  have h0 : (i 0 : Nat) < 4096 := (i 0).isLt
  have hN : cfg0.N = 16 := N_0
  refine ⟨⟨(i 0 : Nat) / 256, by omega⟩, flush0_11 _, ?_⟩
  rw [mem_blk]
  dsimp only
  omega

/-- So the output array ends holding the merged rows. -/
theorem arr (c : Dev nD) : (dats m 0 c).arrAt 11 cfg0.N = result m c :=
  (dats m 0 c).arrAt_eq_of_cover 11 (result m c) (fun t _ => flushed_eq m c t) cover

/-- The merge of the arguments. -/
def spec (h : FVec Ideal S4096x1024 .f32) (y : FVec Ideal S4096x512 .f32) (o q a b : FVec Ideal S4096x1024 .f32) (v t : FVec Ideal S512x1024 .f32)
    (g : FVec Ideal S1024 .f32) (w wm : FVec Ideal S1024x1024 .f32) : FVec Ideal S4096x1024 .f32 := fun i =>
  merged (fun k => h (ix2 (i 0) k)) (fun k => y (ix2 (i 0) k)) (fun k => o (ix2 (i 0) k)) (fun k => g (ix1 k))
    (fun k => q (ix2 (i 0) k)) (fun k => a (ix2 (i 0) k)) (fun k => b (ix2 (i 0) k))
    (fun f k => v (ix2 k f)) (fun f k => t (ix2 k f)) (fun k f => w (ix2 k f)) (fun k f => wm (ix2 k f)) (i 1)

theorem result_eq (c : Dev nD) : result m c = spec (argH m c) (argY m c) (argO m c) (argQ m c) (argA m c) (argB m c) (argVal m c) (argGate m c)
    (argGain m c) (argOut m c) (argMrg m c) := by
  have h0 : resid m c = argH m c := V_main_arg0 m c
  have h1 : rowsY m c = argY m c := V_main_arg1 m c
  have h2 : rowsO m c = argO m c := V_main_arg2 m c
  have h3 : rowsQ m c = argQ m c := V_main_arg3 m c
  have h4 : rowsA m c = argA m c := V_main_arg4 m c
  have h5 : rowsB m c = argB m c := V_main_arg5 m c
  have hg : (fun k : Fin 1024 => gain m c (ix2 0 k)) = fun k => argGain m c (ix1 k) := by
    funext k
    rw [gain_eq]
    pointwise
  funext i
  unfold result spec
  rw [h0, h1, h2, h3, h4, h5, hg, val_eq, gate_eq, wout_eq, wmrg_eq]
  simp only [sharded_apply]
  rfl

/-! ## The claim -/

/-- The kernel's run, read: the result at the merge of the arguments, the arguments unchanged. -/
theorem run : θ_run defs (onTc (τ := τ) (main (F := Ideal))) ⟨m, fun _ => 0, ρ⟩ fun r => ∀ c : Dev nD,
      r.2.mem ((c : Thread nD τ).loc main_v9) = spec (argH m c) (argY m c) (argO m c) (argQ m c) (argA m c) (argB m c) (argVal m c) (argGate m c)
        (argGain m c) (argOut m c) (argMrg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨((h c).1.trans (arr m c)).trans (result_eq m c), (h c).2⟩)
    (Cert.Kernel10Ideal.Value.run_blocks m ρ)

section
open Cert.Reference10Ideal.Read

variable (h : FVec Ideal S4096x1024 .f32) (y : FVec Ideal S4096x512 .f32) (o q a b : FVec Ideal S4096x1024 .f32) (v t : FVec Ideal S512x1024 .f32)
    (g : FVec Ideal S1024 .f32) (w wm : FVec Ideal S1024x1024 .f32)

/-- The reference's activated rows at an index, -/
theorem ref_act (r : Fin 4096) (i : Fin 512) : val_main_v12 (F := Ideal) y (ix2 r i) = gel (y (ix2 r i)) := by
  pointwise [val_main_v0, val_main_v1, val_main_cst, val_main_v2, val_main_v3, val_main_v4, val_main_cst_0, val_main_v5, val_main_v6, val_main_v7, val_main_cst_1, val_main_v8, val_main_v9, val_main_cst_2, val_main_v10, val_main_v11, val_main_v12]
  rfl

/-- the gated linear unit, -/
theorem ref_glu (r : Fin 4096) (f : Fin 1024) : val_main_v21 (F := Ideal) y v t (ix2 r f)
    = glu (fun k => y (ix2 r k)) (fun k => v (ix2 k f)) (fun k => t (ix2 k f)) := by
  pointwise [val_main_v13, val_main_v14, val_main_v15, val_main_v16, val_main_cst_3, val_main_v17, val_main_v18, val_main_cst_4, val_main_v19, val_main_v20, val_main_v21]
  simp only [ref_act, glu, sgm, sub_eq_add_neg, zero_add]

/-- the normalised and gated rows, -/
theorem ref_gated (r : Fin 4096) (f : Fin 1024) : val_main_v39 (F := Ideal) o q g (ix2 r f)
    = gated (fun k => o (ix2 r k)) (fun k => g (ix1 k)) (fun k => q (ix2 r k)) f := by
  pointwise [val_main_v22, val_main_v23, val_main_v24, val_main_cst_5, val_main_v25, val_main_v26, val_main_cst_6, val_main_v27, val_main_v28, val_main_cst_7, val_main_v29, val_main_v30, val_main_v31, val_main_v32, val_main_v33, val_main_v34, val_main_v35, val_main_v36, val_main_v37, val_main_call0_v0, val_main_call0_v1, val_main_call0_cst, val_main_call0_v2, val_main_call0_v3, val_main_call0_cst_0, val_main_call0_v4, val_main_call0_v5, val_main_v38, val_main_v39]
  simp only [gated, hinv, headOf, col, sgm, sub_eq_add_neg, zero_add]

/-- the mixed branches, -/
theorem ref_mixed (r : Fin 4096) (k : Fin 1024) : val_main_v55 (F := Ideal) y o q a b v t g w (ix2 r k)
    = mixed (fun k => y (ix2 r k)) (fun k => o (ix2 r k)) (fun k => g (ix1 k)) (fun k => q (ix2 r k)) (fun k => a (ix2 r k)) (fun k => b (ix2 r k))
      (fun f k => v (ix2 k f)) (fun f k => t (ix2 k f)) (fun k f => w (ix2 k f)) k := by
  pointwise [val_main_v40, val_main_v41, val_main_v42, val_main_cst_8, val_main_v43, val_main_v44, val_main_cst_9, val_main_v45, val_main_v46, val_main_v47, val_main_v48, val_main_v49, val_main_cst_10, val_main_v50, val_main_v51, val_main_cst_11, val_main_v52, val_main_v53, val_main_v54, val_main_v55]
  simp only [ref_glu, ref_gated, mixed, sgm, sub_eq_add_neg, zero_add]

/-- and its result. -/
theorem ref_eq : val_main_v57 (F := Ideal) h y o q a b v t g w wm = spec h y o q a b v t g w wm := by
  funext (i : S4096x1024.Idx)
  obtain ⟨r, d, rfl⟩ : ∃ (r : Fin 4096) (d : Fin 1024), i = ix2 r d := ⟨i 0, i 1, eq_ix2 i⟩
  pointwise [val_main_v56, val_main_v57, spec, merged]
  simp only [ref_mixed]

end

/-- Kernel and reference compute the same function over the extended reals. -/
theorem algebraic : Cert.algebraic_Kernel10Ideal_Reference10Ideal := by
  intro m g m' g' _ hargs
  refine ⟨_, run m g, (θ_run Cert.Reference10Ideal.defs _ _).mono (fun r h c => ⟨?_, (h c).2⟩)
    (Cert.Reference10Ideal.Value.run (F := Ideal) m' g')⟩
  refine ((h c).1).trans ?_
  obtain ⟨h0, h1, h2, h3, h4, h5, h6, h7, h8, h9, h10⟩ := hargs c
  rw [h0, h1, h2, h3, h4, h5, h6, h7, h8, h9, h10]
  exact ref_eq _ _ _ _ _ _ _ _ _ _ _

end Cert.MergeForward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Pre_finite
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel5Ideal.Value
public import proofs.«01_k».proof.Proof.Gen.Kernel7Ideal.Value
public import proofs.«01_k».proof.Proof.Gen.Pre_finite5
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10Ideal.Value
public import proofs.«01_k».proof.Proof.BackwardClaim
public import proofs.«01_k».proof.Proof.WeightGrad
public import proofs.«01_k».proof.Proof.Forward
public import proofs.«01_k».proof.Proof.InprojBackwardClaim
public import proofs.«01_k».proof.Proof.InprojWeightGrad
public import proofs.«01_k».proof.Proof.InprojForward
public import proofs.«01_k».proof.Proof.RowsWeightGrad
public import proofs.«01_k».proof.Proof.ColsWeightGrad
public import proofs.«01_k».proof.Proof.MergeForward
public import Idealize.ShloMosaic.Adequacy
public import Idealize.ShloMosaic.Init

@[expose] public section

noncomputable section

namespace Cert.Proof

open Idealize.ShloMosaic Idealize.SL.Sem Cert.Kernel

/-- The reference of the gradient of the block's input ends, keeps its arguments and leaves every semaphore counter at zero. -/
theorem frame_ReferenceIdeal (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run (Cert.ReferenceIdeal.defs (F := Ideal)) _ _).mono (fun r h => ⟨fun c => (h c).2.2,
      sem_eq_zero_of_no_sems (by decide) r.2⟩) (Cert.ReferenceIdeal.Value.run (F := Ideal) m ρ)

/-- The reference of the weight gradient ends, keeps its arguments and leaves every semaphore counter at zero. -/
theorem frame_Reference2Ideal (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run (Cert.Reference2Ideal.defs (F := Ideal)) _ _).mono (fun r h => ⟨fun c => (h c).2,
      sem_eq_zero_of_no_sems (by decide) r.2⟩) (Cert.Reference2Ideal.Value.run (F := Ideal) m ρ)

/-- The reference of the forward pass ends, keeps its arguments and leaves every semaphore counter at zero. -/
theorem frame_Reference3Ideal (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run (Cert.Reference3Ideal.defs (F := Ideal)) _ _).mono (fun r h => ⟨fun c => (h c).2,
      sem_eq_zero_of_no_sems (by decide) r.2⟩) (Cert.Reference3Ideal.Value.run (F := Ideal) m ρ)

/-- The reference of the gradient of the projection's input ends, keeps its arguments and leaves every semaphore counter at zero. -/
theorem frame_Reference5Ideal (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0) :=
  (θ_run (Cert.Reference5Ideal.defs (F := Ideal)) _ _).mono (fun r h => ⟨fun c => (h c).2.2,
      sem_eq_zero_of_no_sems (by decide) r.2⟩) (Cert.Reference5Ideal.Value.run (F := Ideal) m ρ)

/-- The reference of the projection's weight gradient ends, keeps its arguments and leaves every semaphore counter at zero. -/
theorem frame_Reference6Ideal (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run (Cert.Reference6Ideal.defs (F := Ideal)) _ _).mono (fun r h => ⟨fun c => (h c).2,
      sem_eq_zero_of_no_sems (by decide) r.2⟩) (Cert.Reference6Ideal.Value.run (F := Ideal) m ρ)

/-- The reference of the projection's forward pass ends, keeps its arguments and leaves every semaphore counter at zero. -/
theorem frame_Reference7Ideal (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run (Cert.Reference7Ideal.defs (F := Ideal)) _ _).mono (fun r h => ⟨fun c => (h c).2.2.2.2.2.2.2,
      sem_eq_zero_of_no_sems (by decide) r.2⟩) (Cert.Reference7Ideal.Value.run (F := Ideal) m ρ)

/-- The reference of the gradient of a weight of 1024 rows ends, keeps its arguments and leaves every semaphore counter at zero. -/
theorem frame_Reference8Ideal (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run (Cert.Reference8Ideal.defs (F := Ideal)) _ _).mono (fun r h => ⟨fun c => (h c).2,
      sem_eq_zero_of_no_sems (by decide) r.2⟩) (Cert.Reference8Ideal.Value.run (F := Ideal) m ρ)

/-- The reference of the gradient of a gated linear unit's weight ends, keeps its arguments and leaves every semaphore counter at zero. -/
theorem frame_Reference9Ideal (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run (Cert.Reference9Ideal.defs (F := Ideal)) _ _).mono (fun r h => ⟨fun c => (h c).2,
      sem_eq_zero_of_no_sems (by decide) r.2⟩) (Cert.Reference9Ideal.Value.run (F := Ideal) m ρ)

/-- The reference of the merge ends, keeps its arguments and leaves every semaphore counter at zero. -/
theorem frame_Reference10Ideal (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0) :=
  (θ_run (Cert.Reference10Ideal.defs (F := Ideal)) _ _).mono (fun r h => ⟨fun c => (h c).2,
      sem_eq_zero_of_no_sems (by decide) r.2⟩) (Cert.Reference10Ideal.Value.run (F := Ideal) m ρ)

/-- The certificate's claim: every program's frame; the values of the forward call, of the backward call and of the
weight gradient, for the feed-forward block and for the input projection; the merge's forward values and its weights'
gradients. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
    Cert.Pre_finite.Gen.facts, Cert.Pre_finite5.Gen.facts,
    fun m ρ _ => Cert.Kernel.Gen.frame m ρ, fun m ρ _ => Cert.KernelIdeal.Gen.frame m ρ, fun m ρ _ => Cert.KernelIdeal.Gen.frame m ρ,
    fun m ρ _ => frame_ReferenceIdeal m ρ, fun m ρ _ => frame_ReferenceIdeal m ρ,
    fun m ρ _ => Cert.Kernel2.Gen.frame m ρ, fun m ρ _ => Cert.Kernel2Ideal.Gen.frame m ρ,
    fun m ρ _ => frame_Reference2Ideal m ρ,
    fun m ρ _ => Cert.Kernel3.Gen.frame m ρ, fun m ρ _ => Cert.Kernel3Ideal.Gen.frame m ρ,
    fun m ρ _ => frame_Reference3Ideal m ρ,
    fun m ρ _ => Cert.Kernel4.Gen.frame m ρ, fun m ρ _ => Cert.Kernel4Ideal.Gen.frame m ρ,
    fun m ρ _ => Cert.Kernel5.Gen.frame m ρ, fun m ρ _ => Cert.Kernel5Ideal.Gen.frame m ρ, fun m ρ _ => Cert.Kernel5Ideal.Gen.frame m ρ,
    fun m ρ _ => frame_Reference5Ideal m ρ, fun m ρ _ => frame_Reference5Ideal m ρ,
    fun m ρ _ => Cert.Kernel6.Gen.frame m ρ, fun m ρ _ => Cert.Kernel6Ideal.Gen.frame m ρ,
    fun m ρ _ => frame_Reference6Ideal m ρ,
    fun m ρ _ => Cert.Kernel7.Gen.frame m ρ, fun m ρ _ => Cert.Kernel7Ideal.Gen.frame m ρ,
    fun m ρ _ => frame_Reference7Ideal m ρ,
    fun m ρ _ => Cert.Kernel8.Gen.frame m ρ, fun m ρ _ => Cert.Kernel8Ideal.Gen.frame m ρ,
    fun m ρ _ => frame_Reference8Ideal m ρ,
    fun m ρ _ => Cert.Kernel9.Gen.frame m ρ, fun m ρ _ => Cert.Kernel9Ideal.Gen.frame m ρ,
    fun m ρ _ => frame_Reference9Ideal m ρ,
    fun m ρ _ => Cert.Kernel10.Gen.frame m ρ, fun m ρ _ => Cert.Kernel10Ideal.Gen.frame m ρ,
    fun m ρ _ => frame_Reference10Ideal m ρ,
    trivial, Cert.Backward.algebraic, trivial, Cert.WeightGrad.algebraic, trivial, Cert.Forward.algebraic,
    trivial, trivial, Cert.InprojBackward.algebraic, trivial, Cert.InprojWeightGrad.algebraic, trivial, Cert.InprojForward.algebraic,
    trivial, Cert.RowsWeightGrad.algebraic, trivial, Cert.ColsWeightGrad.algebraic, trivial, Cert.MergeForward.algebraic⟩

end Cert.Proof

end
